-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x1024 : Shape := ⟨3, ![2, 2048, 1024]⟩
abbrev S1024x8 : Shape := ⟨2, ![1024, 8]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩

class Facts : Prop where
  bcast_S_S2x2048x1024 : S_.BroadcastsInDim S2x2048x1024 (![] : Fin 0 → Fin S2x2048x1024.rank)
  bcast_S_S1024x8 : S_.BroadcastsInDim S1024x8 (![] : Fin 0 → Fin S1024x8.rank)
  bcast_S_S8 : S_.BroadcastsInDim S8 (![] : Fin 0 → Fin S8.rank)

variable [Facts]

def fn {F : FTy → Type} [FloatOps F] (main_arg0 : FVec F S2x2048x1024 .f32) (main_arg1 : FVec F S1024x8 .f32) (main_arg2 : FVec F S8 .f32) (main_arg3 : FVec F S8x1024x4096 .f32) (main_arg4 : FVec F S8x4096 .f32) (main_arg5 : FVec F S8x4096x1024 .f32) (main_arg6 : FVec F S8x1024 .f32) : IVec S2x2048x1024 1 × IVec S1024x8 1 × IVec S8 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024x8 .f32 := Host.absf main_arg1
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  let main_v6 : FVec F S8 .f32 := Host.absf main_arg2
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S2x2048x1024 : Shape := ⟨3, ![2, 2048, 1024]⟩
abbrev S1024x8 : Shape := ⟨2, ![1024, 8]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S4096x1024 : Shape := ⟨2, ![4096, 1024]⟩
abbrev S1x8 : Shape := ⟨2, ![1, 8]⟩
abbrev S8x1x4096 : Shape := ⟨3, ![8, 1, 4096]⟩
abbrev S8x1x1024 : Shape := ⟨3, ![8, 1, 1024]⟩
abbrev S512x1024 : Shape := ⟨2, ![512, 1024]⟩
abbrev S1x1x4096 : Shape := ⟨3, ![1, 1, 4096]⟩
abbrev S1x1x1024 : Shape := ⟨3, ![1, 1, 1024]⟩
abbrev S1024x4096 : Shape := ⟨2, ![1024, 4096]⟩
abbrev S2 : Shape := ⟨1, ![2]⟩
abbrev S1 : Shape := ⟨1, ![1]⟩
abbrev S_ : Shape := ⟨0, ![]⟩
abbrev S512x4096 : Shape := ⟨2, ![512, 4096]⟩
abbrev S1x512x4096 : Shape := ⟨3, ![1, 512, 4096]⟩
abbrev S2048x1024 : Shape := ⟨2, ![2048, 1024]⟩
abbrev S1x2048x1024 : Shape := ⟨3, ![1, 2048, 1024]⟩
abbrev S512x8 : Shape := ⟨2, ![512, 8]⟩
abbrev S512 : Shape := ⟨1, ![512]⟩
abbrev S512x1 : Shape := ⟨2, ![512, 1]⟩
abbrev S1x4096 : Shape := ⟨2, ![1, 4096]⟩
abbrev S1x1024 : Shape := ⟨2, ![1, 1024]⟩

abbrev nBuf : Space → Nat
  | .hbm => 14
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8, .f32⟩
  | .hbm, ⟨3, _⟩ => ⟨S8x1024x4096, .f32⟩
  | .hbm, ⟨4, _⟩ => ⟨S8x4096, .f32⟩
  | .hbm, ⟨5, _⟩ => ⟨S8x4096x1024, .f32⟩
  | .hbm, ⟨6, _⟩ => ⟨S8x1024, .f32⟩
  | .hbm, ⟨7, _⟩ => ⟨S4096x1024, .f32⟩
  | .hbm, ⟨8, _⟩ => ⟨S1x8, .f32⟩
  | .hbm, ⟨9, _⟩ => ⟨S8x1x4096, .f32⟩
  | .hbm, ⟨10, _⟩ => ⟨S8x1x1024, .f32⟩
  | .hbm, ⟨11, _⟩ => ⟨S4096x1024, .f32⟩
  | .hbm, ⟨12, _⟩ => ⟨S4096x1024, .f32⟩
  | .hbm, ⟨13, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x8, .f32⟩
  | .local _ .vmem, ⟨3, _⟩ => ⟨S1x8, .f32⟩
  | .local _ .vmem, ⟨4, _⟩ => ⟨S1x1x4096, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S1024x4096, .f32⟩
  | .local _ .vmem, ⟨9, _⟩ => ⟨S4096x1024, .f32⟩
  | .local _ .vmem, ⟨10, _⟩ => ⟨S512x1024, .f32⟩
  | .local _ .vmem, ⟨11, _⟩ => ⟨S512x1024, .f32⟩
  | .local _ .vmem, ⟨12, _⟩ => ⟨S1024x8, .f32⟩
  | .local _ .vmem, ⟨13, _⟩ => ⟨S1x8, .f32⟩
  | .local _ .vmem, ⟨14, _⟩ => ⟨S1x1x4096, .f32⟩
  | .local _ .vmem, ⟨15, _⟩ => ⟨S1x1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1024x4096, .f32⟩
  | .local _ .vmem, ⟨21, _⟩ => ⟨S4096x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_6 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S1024x8 : Shape := ⟨2, ![1024, 8]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S2x2048x8 : Shape := ⟨3, ![2, 2048, 8]⟩
abbrev S1x1x8 : Shape := ⟨3, ![1, 1, 8]⟩
abbrev S_ : Shape := ⟨0, ![]⟩
abbrev S2x2048 : Shape := ⟨2, ![2, 2048]⟩
abbrev S2x2048x1 : Shape := ⟨3, ![2, 2048, 1]⟩
abbrev S2x2048x2 : Shape := ⟨3, ![2, 2048, 2]⟩
abbrev S2x2048x1x1024 : Shape := ⟨4, ![2, 2048, 1, 1024]⟩
abbrev S2x2048x8x1 : Shape := ⟨4, ![2, 2048, 8, 1]⟩
abbrev S2x2048x8x1024 : Shape := ⟨4, ![2, 2048, 8, 1024]⟩
abbrev S1x1024x4096 : Shape := ⟨3, ![1, 1024, 4096]⟩
abbrev S1024x4096 : Shape := ⟨2, ![1024, 4096]⟩
abbrev S2x2048x4096 : Shape := ⟨3, ![2, 2048, 4096]⟩
abbrev S1x4096 : Shape := ⟨2, ![1, 4096]⟩
abbrev S4096 : Shape := ⟨1, ![4096]⟩
abbrev S1x1x4096 : Shape := ⟨3, ![1, 1, 4096]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8, .f32⟩
  | .hbm, ⟨3, _⟩ => ⟨S8x1024x4096, .f32⟩
  | .hbm, ⟨4, _⟩ => ⟨S8x4096, .f32⟩
  | .hbm, ⟨5, _⟩ => ⟨S8x4096x1024, .f32⟩
  | .hbm, ⟨6, _⟩ => ⟨S8x1024, .f32⟩
  | .hbm, ⟨7, _⟩ => ⟨S2x2048x8, .f32⟩
  | .hbm, ⟨8, _⟩ => ⟨S1x1x8, .f32⟩
  | .hbm, ⟨9, _⟩ => ⟨S2x2048x8, .f32⟩
  | .hbm, ⟨10, _⟩ => ⟨S2x2048x8, .f32⟩
  | .hbm, ⟨11, _⟩ => ⟨S_, .f32⟩
  | .hbm, ⟨12, _⟩ => ⟨S2x2048, .f32⟩
  | .hbm, ⟨13, _⟩ => ⟨S_, .f32⟩
  | .hbm, ⟨14, _⟩ => ⟨S2x2048, .f32⟩
  | .hbm, ⟨15, _⟩ => ⟨S2x2048, .f32⟩
  | .hbm, ⟨16, _⟩ => ⟨S2x2048x1, .f32⟩
  | .hbm, ⟨17, _⟩ => ⟨S2x2048x8, .f32⟩
  | .hbm, ⟨18, _⟩ => ⟨S2x2048x8, .f32⟩
  | .hbm, ⟨19, _⟩ => ⟨S2x2048x8, .f32⟩
  | .hbm, ⟨20, _⟩ => ⟨S_, .f32⟩
  | .hbm, ⟨21, _⟩ => ⟨S2x2048, .f32⟩
  | .hbm, ⟨22, _⟩ => ⟨S2x2048x1, .f32⟩
  | .hbm, ⟨23, _⟩ => ⟨S2x2048x8, .f32⟩
  | .hbm, ⟨24, _⟩ => ⟨S2x2048x8, .f32⟩
  | .hbm, ⟨25, _⟩ => ⟨S2x2048x2, .f32⟩
  | .hbm, ⟨26, _⟩ => ⟨S2x2048x2, .i32⟩
  | .hbm, ⟨27, _⟩ => ⟨S_, .f32⟩
  | .hbm, ⟨28, _⟩ => ⟨S2x2048, .f32⟩
  | .hbm, ⟨29, _⟩ => ⟨S2x2048x1, .f32⟩
  | .hbm, ⟨30, _⟩ => ⟨S2x2048x2, .f32⟩
  | .hbm, ⟨31, _⟩ => ⟨S2x2048x2, .f32⟩
  | .hbm, ⟨32, _⟩ => ⟨S_, .f32⟩
  | .hbm, ⟨33, _⟩ => ⟨S2x2048x1024, .f32⟩
  | .hbm, ⟨34, _⟩ => ⟨S2x2048x1, .i32⟩
  | .hbm, ⟨35, _⟩ => ⟨S2x2048, .i32⟩
  | .hbm, ⟨36, _⟩ => ⟨S2x2048x1, .i32⟩
  | .hbm, ⟨37, _⟩ => ⟨S1x1x8, .i32⟩
  | .hbm, ⟨38, _⟩ => ⟨S2x2048x8, .i32⟩
  | .hbm, ⟨39, _⟩ => ⟨S2x2048x8, .i32⟩
  | .hbm, ⟨40, _⟩ => ⟨S2x2048x8, .i1⟩
  | .hbm, ⟨41, _⟩ => ⟨S2x2048x8, .f32⟩
  | .hbm, ⟨42, _⟩ => ⟨S2x2048x1x1024, .f32⟩
  | .hbm, ⟨43, _⟩ => ⟨S2x2048x8x1, .f32⟩
  | .hbm, ⟨44, _⟩ => ⟨S2x2048x8x1024, .f32⟩
  | .hbm, ⟨45, _⟩ => ⟨S2x2048x8x1024, .f32⟩
  | .hbm, ⟨46, _⟩ => ⟨S2x2048x8x1024, .f32⟩
  | .hbm, ⟨47, _⟩ => ⟨S_, .f32⟩
  | .hbm, ⟨48, _⟩ => ⟨S2x2048x1024, .f32⟩
  | .hbm, ⟨49, _⟩ => ⟨S1x1024x4096, .f32⟩
  | .hbm, ⟨50, _⟩ => ⟨S1024x4096, .f32⟩
  | .hbm, ⟨51, _⟩ => ⟨S2x2048x4096, .f32⟩
  | .hbm, ⟨52, _⟩ => ⟨S1x4096, .f32⟩
  | .hbm, ⟨53, _⟩ => ⟨S4096, .f32⟩
  | .hbm, ⟨54, _⟩ => ⟨S1x1x4096, .f32⟩
  | .hbm, ⟨55, _⟩ => ⟨S2x2048x4096, .f32⟩
  | .hbm, ⟨56, _⟩ => ⟨S2x2048x4096, .f32⟩
  | .hbm, ⟨57, _⟩ => ⟨S_, .f32⟩
  | .hbm, ⟨58, _⟩ => ⟨S2x2048x4096, .f32⟩
  | .hbm, ⟨59, _⟩ => ⟨S2x2048x4096, .f32⟩
  | .hbm, ⟨60, _⟩ => ⟨S1x4096x1024, .f32⟩
  | .hbm, ⟨61, _⟩ => ⟨S4096x1024, .f32⟩
  | .hbm, ⟨62, _⟩ => ⟨S2x2048x1024, .f32⟩
  | .hbm, ⟨63, _⟩ => ⟨S1x1024, .f32⟩
  | .hbm, ⟨64, _⟩ => ⟨S1024, .f32⟩
  | .hbm, ⟨65, _⟩ => ⟨S1x1x1024, .f32⟩
  | .hbm, ⟨66, _⟩ => ⟨S2x2048x1024, .f32⟩
  | .hbm, ⟨67, _⟩ => ⟨S2x2048x1024, .f32⟩
  | .hbm, ⟨68, _⟩ => ⟨S2x2048x1, .f32⟩
  | .hbm, ⟨69, _⟩ => ⟨S2x2048, .f32⟩
  | .hbm, ⟨70, _⟩ => ⟨S2x2048x1, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1, .i32⟩
  | .hbm, ⟨75, _⟩ => ⟨S2x2048, .i32⟩
  | .hbm, ⟨76, _⟩ => ⟨S2x2048x1, .i32⟩
  | .hbm, ⟨77, _⟩ => ⟨S1x1x8, .i32⟩
  | .hbm, ⟨78, _⟩ => ⟨S2x2048x8, .i32⟩
  | .hbm, ⟨79, _⟩ => ⟨S2x2048x8, .i32⟩
  | .hbm, ⟨80, _⟩ => ⟨S2x2048x8, .i1⟩
  | .hbm, ⟨81, _⟩ => ⟨S2x2048x8, .f32⟩
  | .hbm, ⟨82, _⟩ => ⟨S2x2048x1x1024, .f32⟩
  | .hbm, ⟨83, _⟩ => ⟨S2x2048x8x1, .f32⟩
  | .hbm, ⟨84, _⟩ => ⟨S2x2048x8x1024, .f32⟩
  | .hbm, ⟨85, _⟩ => ⟨S2x2048x8x1024, .f32⟩
  | .hbm, ⟨86, _⟩ => ⟨S2x2048x8x1024, .f32⟩
  | .hbm, ⟨87, _⟩ => ⟨S_, .f32⟩
  | .hbm, ⟨88, _⟩ => ⟨S2x2048x1024, .f32⟩
  | .hbm, ⟨89, _⟩ => ⟨S1x1024x4096, .f32⟩
  | .hbm, ⟨90, _⟩ => ⟨S1024x4096, .f32⟩
  | .hbm, ⟨91, _⟩ => ⟨S2x2048x4096, .f32⟩
  | .hbm, ⟨92, _⟩ => ⟨S1x4096, .f32⟩
  | .hbm, ⟨93, _⟩ => ⟨S4096, .f32⟩
  | .hbm, ⟨94, _⟩ => ⟨S1x1x4096, .f32⟩
  | .hbm, ⟨95, _⟩ => ⟨S2x2048x4096, .f32⟩
  | .hbm, ⟨96, _⟩ => ⟨S2x2048x4096, .f32⟩
  | .hbm, ⟨97, _⟩ => ⟨S_, .f32⟩
  | .hbm, ⟨98, _⟩ => ⟨S2x2048x4096, .f32⟩
  | .hbm, ⟨99, _⟩ => ⟨S2x2048x4096, .f32⟩
  | .hbm, ⟨100, _⟩ => ⟨S1x4096x1024, .f32⟩
  | .hbm, ⟨101, _⟩ => ⟨S4096x1024, .f32⟩
  | .hbm, ⟨102, _⟩ => ⟨S2x2048x1024, .f32⟩
  | .hbm, ⟨103, _⟩ => ⟨S1x1024, .f32⟩
  | .hbm, ⟨104, _⟩ => ⟨S1024, .f32⟩
  | .hbm, ⟨105, _⟩ => ⟨S1x1x1024, .f32⟩
  | .hbm, ⟨106, _⟩ => ⟨S2x2048x1024, .f32⟩
  | .hbm, ⟨107, _⟩ => ⟨S2x2048x1024, .f32⟩
  | .hbm, ⟨108, _⟩ => ⟨S2x2048x1, .f32⟩
  | .hbm, ⟨109, _⟩ => ⟨S2x2048, .f32⟩
  | .hbm, ⟨110, _⟩ => ⟨S2x2048x1, .f32⟩
  | .hbm, ⟨111, _⟩ => ⟨S2x2048x1024, .f32⟩
  | .hbm, ⟨112, _⟩ => ⟨S2x2048x1024, .f32⟩
  | .hbm, ⟨113, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_values : Ref sig .tc := ⟨.hbm, 25, rfl⟩
abbrev main_indices : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_5 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call3_cst : Ref sig .tc := ⟨.hbm, 97, rfl⟩
abbrev main_call3_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]
-- ==== Proof.Slab.lean ====
module

public import Idealize.ShloMosaic.Lib.Pipeline.FrameBody
public import Idealize.ShloMosaic.Lib.Pipeline.Value
public import Idealize.ShloMosaic.Lib.WritesUnit
public import Idealize.ShloMosaic.Lib.VecWindow
public import Idealize.ShloMosaic.Lib.ValueLayout

@[expose] public section

/-! What a scratch buffer holds after one member of a stack of matrices is transferred into it in two halves. -/

namespace Cert.Slab

open Idealize.ShloMosaic Idealize.ShloMosaic.ValueIdx

variable {α : Type}

/-- Member `e` of a stack of `m` matrices. -/
def slab {m a b : ℕ} (e : Fin m) (w : (⟨3, ![m, a, b]⟩ : Shape).Idx → α) : (⟨2, ![a, b]⟩ : Shape).Idx → α :=
  fun y => w (ix3 e (y 0) (y 1))

/-- A member of a stack, at an index. -/
theorem slab_ix2 {m a b : ℕ} (e : Fin m) (w : (⟨3, ![m, a, b]⟩ : Shape).Idx → α) (i : Fin a) (j : Fin b) :
    slab e w (ix2 i j) = w (ix3 e i j) := rfl

section

variable {sig : RefSig} {κ : Kind} {cs : Space} {t : EltTy} {Val : EltTy → Type}

/-- Rows `o` and on of one member of the stack, read through the view the transfer takes its source by. -/
theorem part_read {m a b h : ℕ} (M : Memref sig κ cs ⟨3, ![m, a, b]⟩ t) (e o : ℕ)
    (inb : ∀ k, (![e, o, 0] : Fin 3 → ℕ) k + (![1, h, b] : Fin 3 → ℕ) k ≤ (![m, a, b] : Fin 3 → ℕ) k)
    (hr : ∀ k, (Rect.unit (s := ⟨3, ![m, a, b]⟩) ![e, o, 0] ![1, h, b] inb).stride k = 1)
    (hq : (Rect.unit (s := ⟨3, ![m, a, b]⟩) ![e, o, 0] ![1, h, b] inb).shape.Squeezes ⟨2, ![h, b]⟩)
    (f : M.view.ty.Contents Val) (he : e < m) (x : (⟨2, ![h, b]⟩ : Shape).Idx) (i : Fin a) (j : Fin b)
    (hi : i.val = o + (x 0).val) (hj : j.val = (x 1).val) :
    ((M.slice (Rect.unit (s := ⟨3, ![m, a, b]⟩) ![e, o, 0] ![1, h, b] inb) hr).squeeze ⟨2, ![h, b]⟩ hq).view.read Val f x
      = M.view.read Val f (ix3 (⟨e, he⟩ : Fin m) i j) := by
  rw [Memref.read_squeeze_slice M _ hr hq hq.numel_eq f]
  obtain ⟨p, q, rfl⟩ : ∃ (p : Fin h) (q : Fin b), x = ix2 p q := ⟨x 0, x 1, eq_ix2 x⟩
  refine (shapeCast_1ab_ab_apply _ _ p q).trans ?_
  refine congrArg (M.view.read Val f) (funext fun k => Fin.ext ?_)
  match k with
  | ⟨0, _⟩ => rfl
  | ⟨1, _⟩ => show o + 1 * p.val = i.val; rw [hi]; show o + 1 * p.val = o + p.val; omega
  | ⟨2, _⟩ => show 0 + 1 * q.val = j.val; rw [hj]; show 0 + 1 * q.val = q.val; omega

/-- The two halves of the rows written, whatever was held before: the view reads member `e` of the stack. -/
theorem halves_read [∀ t, Nonempty (Val t)] {κ' : Kind} {sp : Space} {m a b h : ℕ} (v : View sig κ' sp ⟨2, ![a, b]⟩ t) (g : v.ty.Contents Val)
    (M : Memref sig κ cs ⟨3, ![m, a, b]⟩ t) (f : M.view.ty.Contents Val) (e : Fin m) (ha : a = h + h)
    (inb₀ : ∀ k, (![0, 0] : Fin 2 → ℕ) k + (![h, b] : Fin 2 → ℕ) k ≤ (![a, b] : Fin 2 → ℕ) k)
    (inb₁ : ∀ k, (![h, 0] : Fin 2 → ℕ) k + (![h, b] : Fin 2 → ℕ) k ≤ (![a, b] : Fin 2 → ℕ) k)
    (u₀ u₁ : (⟨2, ![h, b]⟩ : Shape).Idx → Val t)
    (h₀ : ∀ (x : (⟨2, ![h, b]⟩ : Shape).Idx) (i : Fin a) (j : Fin b), i.val = 0 + (x 0).val → j.val = (x 1).val →
      u₀ x = M.view.read Val f (ix3 e i j))
    (h₁ : ∀ (x : (⟨2, ![h, b]⟩ : Shape).Idx) (i : Fin a) (j : Fin b), i.val = h + (x 0).val → j.val = (x 1).val →
      u₁ x = M.view.read Val f (ix3 e i j)) :
    v.read Val (v.writes Val g [⟨Rect.unit (s := ⟨2, ![a, b]⟩) ![h, 0] ![h, b] inb₁, u₁⟩,
      ⟨Rect.unit (s := ⟨2, ![a, b]⟩) ![0, 0] ![h, b] inb₀, u₀⟩]) = slab e (M.view.read Val f) := by
  funext y
  obtain ⟨p, q, rfl⟩ : ∃ (p : Fin a) (q : Fin b), y = ix2 p q := ⟨y 0, y 1, eq_ix2 y⟩
  by_cases hp : h ≤ p.val
  · have hlt : p.val - h < h := by have := p.isLt; omega
    refine (View.read_writes_cons_rows_of_mem (d := ![a, b]) v g inb₁ u₁ _ (ix2 p q) (ix2 (⟨p.val - h, hlt⟩ : Fin h) q) rfl ?_ rfl).trans ?_
    · show p.val = h + (p.val - h); omega
    · exact h₁ _ p q (by show p.val = h + (p.val - h); omega) rfl
  · have hlt : p.val < h := by omega
    refine (View.read_writes_cons_rows_of_not_mem (d := ![a, b]) (W := h) v g inb₁ u₁ _ (ix2 p q) rfl rfl (.inl hlt)).trans ?_
    refine (View.read_writes_cons_rows_of_mem (d := ![a, b]) v g inb₀ u₀ _ (ix2 p q) (ix2 (⟨p.val, hlt⟩ : Fin h) q) rfl ?_ rfl).trans ?_
    · show p.val = 0 + p.val; omega
    · exact h₀ _ p q (by show p.val = 0 + p.val; omega) rfl

end

end Cert.Slab

end
-- ==== Proof.Body0.lean ====
/-
  The first expert's kernel body, run once.  At the first grid point it copies the expert's two weight matrices from
  HBM into its scratch buffers by four transfers and waits for them; at every later point it finds them there.  Both
  runs are stated for any float values.
-/
module

public import proofs.«01_k».proof.Proof.Slab
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Body0

open Cert.Slab Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- What memref `M`'s buffer on core `c` may hold. -/
abbrev At (c : Dev nD) {sp : Space} {S : Shape} {e : EltTy} (M : Memref sig .tc sp S e) : Type := Buf (Elt F) (M.view.loc (c : Thread nD τ))
/-- Memref `M`'s buffer on core `c`, owned whole with contents `f`. -/
abbrev has (c : Dev nD) {sp : Space} {S : Shape} {e : EltTy} (M : Memref sig .tc sp S e) (f : At (F := F) c M) : sProp 𝕄 :=
  M.view.loc (c : Thread nD τ) ↦{fullShare} f

/-- The stack of first matrices. -/
abbrev w1M : Memref sig .tc .hbm S8x1024x4096 .f32 := Memref.whole main_arg3
/-- The stack of second matrices. -/
abbrev w2M : Memref sig .tc .hbm S8x4096x1024 .f32 := Memref.whole main_arg5
/-- The scratch buffer of the first matrix. -/
abbrev s1M : Memref sig .tc .vmem S1024x4096 .f32 := Memref.whole cc0_scratch0
/-- The scratch buffer of the second matrix. -/
abbrev s2M : Memref sig .tc .vmem S4096x1024 .f32 := Memref.whole cc0_scratch1

/-- The body's four own semaphores at zero. -/
abbrev idle (c : Dev nD) : sProp 𝕄 :=
  iprop(semVal ((c : Thread nD τ), SemLoc.dma 8) 0 ∗ semVal ((c : Thread nD τ), SemLoc.dma 9) 0
    ∗ semVal ((c : Thread nD τ), SemLoc.dma 10) 0 ∗ semVal ((c : Thread nD τ), SemLoc.dma 11) 0)

/-- The block the body stores, of the blocks it reads and the two weight matrices. -/
def outVal (x : Vec F S512x1024 .f32) (wr : Vec F S1024x8 .f32) (br : Vec F S1x8 .f32) (b1 : Vec F S1x1x4096 .f32) (b2 : Vec F S1x1x1024 .f32)
    (A : Vec F S1024x4096 .f32) (B : Vec F S4096x1024 .f32) : Vec F S512x1024 .f32 :=
  k0_pay1 (k0_pay3 x wr br) (k0_pay4 x A) b1 B b2

/-! What each of the four transfers carries: rows of one member of a stack. -/

/-- The first half of the first matrix. -/
theorem srcA0 (c : Dev nD) (w : At (F := F) c w1M) (hr) (hq) (x : S512x4096.Idx) (i : Fin 1024) (j : Fin 4096) (hi : i.val = 0 + (x 0).val)
    (hj : j.val = (x 1).val) :
    ReadAs.same.apply (View.read (Elt F) ((w1M.slice (Rect.unit (s := S8x1024x4096) ![0, 0, 0] S1x512x4096.size inb_S8x1024x4096_S1x512x4096_0_0_0) hr).squeeze S512x4096 hq).view w) x
      = w1M.view.read (Elt F) w (ValueIdx.ix3 (0 : Fin 8) i j) :=
  part_read (Val := Elt F) (m := 8) (a := 1024) (b := 4096) (h := 512) w1M 0 0 inb_S8x1024x4096_S1x512x4096_0_0_0 hr hq w (by decide) x i j hi hj

/-- The second half of the first matrix. -/
theorem srcA1 (c : Dev nD) (w : At (F := F) c w1M) (hr) (hq) (x : S512x4096.Idx) (i : Fin 1024) (j : Fin 4096) (hi : i.val = 512 + (x 0).val)
    (hj : j.val = (x 1).val) :
    ReadAs.same.apply (View.read (Elt F) ((w1M.slice (Rect.unit (s := S8x1024x4096) ![0, 512, 0] S1x512x4096.size inb_S8x1024x4096_S1x512x4096_0_512_0) hr).squeeze S512x4096 hq).view w) x
      = w1M.view.read (Elt F) w (ValueIdx.ix3 (0 : Fin 8) i j) :=
  part_read (Val := Elt F) (m := 8) (a := 1024) (b := 4096) (h := 512) w1M 0 512 inb_S8x1024x4096_S1x512x4096_0_512_0 hr hq w (by decide) x i j hi hj

/-- The first half of the second matrix. -/
theorem srcB0 (c : Dev nD) (w : At (F := F) c w2M) (hr) (hq) (x : S2048x1024.Idx) (i : Fin 4096) (j : Fin 1024) (hi : i.val = 0 + (x 0).val)
    (hj : j.val = (x 1).val) :
    ReadAs.same.apply (View.read (Elt F) ((w2M.slice (Rect.unit (s := S8x4096x1024) ![0, 0, 0] S1x2048x1024.size inb_S8x4096x1024_S1x2048x1024_0_0_0) hr).squeeze S2048x1024 hq).view w) x
      = w2M.view.read (Elt F) w (ValueIdx.ix3 (0 : Fin 8) i j) :=
  part_read (Val := Elt F) (m := 8) (a := 4096) (b := 1024) (h := 2048) w2M 0 0 inb_S8x4096x1024_S1x2048x1024_0_0_0 hr hq w (by decide) x i j hi hj

/-- The second half of the second matrix. -/
theorem srcB1 (c : Dev nD) (w : At (F := F) c w2M) (hr) (hq) (x : S2048x1024.Idx) (i : Fin 4096) (j : Fin 1024) (hi : i.val = 2048 + (x 0).val)
    (hj : j.val = (x 1).val) :
    ReadAs.same.apply (View.read (Elt F) ((w2M.slice (Rect.unit (s := S8x4096x1024) ![0, 2048, 0] S1x2048x1024.size inb_S8x4096x1024_S1x2048x1024_0_2048_0) hr).squeeze S2048x1024 hq).view w) x
      = w2M.view.read (Elt F) w (ValueIdx.ix3 (0 : Fin 8) i j) :=
  part_read (Val := Elt F) (m := 8) (a := 4096) (b := 1024) (h := 2048) w2M 0 2048 inb_S8x4096x1024_S1x2048x1024_0_2048_0 hr hq w (by decide) x i j hi hj

/-- The two halves of the expert's matrix, transferred one after the other: the buffer holds the matrix. -/
theorem filledA (c : Dev nD) (w : At (F := F) c w1M) (u₀ u₁ : S512x4096.Idx → Elt F .f32)
    (e₀ : ∀ (x : S512x4096.Idx) (i : Fin 1024) (j : Fin 4096), i.val = 0 + (x 0).val → j.val = (x 1).val → u₀ x = w1M.view.read (Elt F) w (ValueIdx.ix3 (0 : Fin 8) i j))
    (e₁ : ∀ (x : S512x4096.Idx) (i : Fin 1024) (j : Fin 4096), i.val = 512 + (x 0).val → j.val = (x 1).val → u₁ x = w1M.view.read (Elt F) w (ValueIdx.ix3 (0 : Fin 8) i j)) :
    (s1M.view.writes (Elt F) s1M.view.junk [⟨Rect.unit ![512, 0] S512x4096.size inb_S1024x4096_S512x4096_512_0, u₁⟩, ⟨Rect.unit ![0, 0] S512x4096.size inb_S1024x4096_S512x4096_0_0, u₀⟩] : At (F := F) c s1M)
      = slab (m := 8) (a := 1024) (b := 4096) 0 w := by
  refine (View.read_whole cc0_scratch0 _).symm.trans ?_
  exact halves_read (Val := Elt F) (m := 8) (a := 1024) (b := 4096) (h := 512) s1M.view s1M.view.junk w1M w (0 : Fin 8) rfl
      inb_S1024x4096_S512x4096_0_0 inb_S1024x4096_S512x4096_512_0 u₀ u₁ e₀ e₁

/-- The two halves of the expert's matrix, transferred one after the other: the buffer holds the matrix. -/
theorem filledB (c : Dev nD) (w : At (F := F) c w2M) (u₀ u₁ : S2048x1024.Idx → Elt F .f32)
    (e₀ : ∀ (x : S2048x1024.Idx) (i : Fin 4096) (j : Fin 1024), i.val = 0 + (x 0).val → j.val = (x 1).val → u₀ x = w2M.view.read (Elt F) w (ValueIdx.ix3 (0 : Fin 8) i j))
    (e₁ : ∀ (x : S2048x1024.Idx) (i : Fin 4096) (j : Fin 1024), i.val = 2048 + (x 0).val → j.val = (x 1).val → u₁ x = w2M.view.read (Elt F) w (ValueIdx.ix3 (0 : Fin 8) i j)) :
    (s2M.view.writes (Elt F) s2M.view.junk [⟨Rect.unit ![2048, 0] S2048x1024.size inb_S4096x1024_S2048x1024_2048_0, u₁⟩, ⟨Rect.unit ![0, 0] S2048x1024.size inb_S4096x1024_S2048x1024_0_0, u₀⟩] : At (F := F) c s2M)
      = slab (m := 8) (a := 4096) (b := 1024) 0 w := by
  refine (View.read_whole cc0_scratch1 _).symm.trans ?_
  exact halves_read (Val := Elt F) (m := 8) (a := 4096) (b := 1024) (h := 2048) s2M.view s2M.view.junk w2M w (0 : Fin 8) rfl
      inb_S4096x1024_S2048x1024_0_0 inb_S4096x1024_S2048x1024_2048_0 u₀ u₁ e₀ e₁

/-- A later point: the scratch buffers already hold the weights, nothing is transferred; the stored block is `outVal`. -/
theorem runLater (c : Dev nD) (i : grid0.Coords) (hi : (i 0).val ≠ 0)
    (a1 : Memref sig .tc .vmem S512x1024 .f32) (h1 : a1.IsWhole) (a2 : Memref sig .tc .vmem S1024x8 .f32) (h2 : a2.IsWhole)
    (a3 : Memref sig .tc .vmem S1x8 .f32) (h3 : a3.IsWhole) (a5 : Memref sig .tc .vmem S1x1x4096 .f32) (h5 : a5.IsWhole)
    (a7 : Memref sig .tc .vmem S1x1x1024 .f32) (h7 : a7.IsWhole) (a8 : Memref sig .tc .vmem S512x1024 .f32) (h8 : a8.IsWhole)
    (f1 : At (F := F) c a1) (f2 : At (F := F) c a2) (f3 : At (F := F) c a3) (f5 : At (F := F) c a5) (f7 : At (F := F) c a7)
    (f8 : At (F := F) c a8) (g1 : At (F := F) c s1M) (g2 : At (F := F) c s2M) (Q : PUnit → sProp 𝕄) :
    iprop(has c a1 f1 ∗ has c a2 f2 ∗ has c a3 f3 ∗ has c a5 f5 ∗ has c a7 f7 ∗ has c a8 f8 ∗ has c s1M g1 ∗ has c s2M g2
      ∗ (iprop(has c a1 f1 ∗ has c a2 f2 ∗ has c a3 f3 ∗ has c a5 f5 ∗ has c a7 f7
          ∗ (∃ f : At (F := F) c a8, ⌜a8.view.read (Elt F) f = outVal (a1.view.read (Elt F) f1) (a2.view.read (Elt F) f2) (a3.view.read (Elt F) f3)
              (a5.view.read (Elt F) f5) (a7.view.read (Elt F) f7) g1 g2⌝ ∗ has c a8 f) ∗ has c s1M g1 ∗ has c s2M g2) -∗ Q ⟨⟩))
    ⊢ wp frame (wpE (defs₀ (F := F)) Variants.none c none) Set.univ
        (cc0__expert_kernel i a1 h1 a2 h2 a3 h3 w1M (Memref.isWhole_whole _) a5 h5 w2M (Memref.isWhole_whole _) a7 h7 a8 h8
          s1M (Memref.isWhole_whole _) s2M (Memref.isWhole_whole _) cc0_scratch2 cc0_scratch3) Q := by
  have hlt : (i 0).val < 8 := (i 0).isLt
  have hc : ¬ (Scalar.cmpi .ne (Scalar.extui (Scalar.cmpi .eq (BitVec.ofNat 32 (i 0).val) 0#32) : BitVec 32) 0#32 = 1#1) := by
    have hk : ∀ k : Fin 8, k.val ≠ 0 →
        ¬ (Scalar.cmpi .ne (Scalar.extui (Scalar.cmpi .eq (BitVec.ofNat 32 k.val) 0#32) : BitVec 32) 0#32 = 1#1) := by decide
    exact hk ⟨(i 0).val, hlt⟩ hi
  iintro ⟨H1, H2, H3, H5, H7, H8, S1, S2, Hk⟩
  sl_exec!
  sl_step
  iapply Hk
  isplitl [H1]; · iexact H1
  isplitl [H2]; · iexact H2
  isplitl [H3]; · iexact H3
  isplitl [H5]; · iexact H5
  isplitl [H7]; · iexact H7
  isplitl [H8]
  · iexists _; isplitr
    swap; · iexact H8
    ipureintro
    unfold runLater.sl.H8_1 runLater.sl.r runLater.sl.r_1
    rw [View.read_writes_full]
    rw [View.readAt_full a1.view, View.readAt_full a2.view, View.readAt_full a3.view, View.readAt_full a5.view, View.readAt_full a7.view,
      View.readAt_full s1M.view, View.readAt_full s2M.view]
    rfl
  isplitl [S1]; · iexact S1
  iexact S2

set_option maxHeartbeats 800000 in
set_option sl_exec.dmaWindow true in
/-- The first point: the weights are transferred from the stacks into the scratch buffers and waited for; the stored block is `outVal`
    of the expert's matrices, which the scratch buffers hold afterwards. -/
theorem runFirst (c : Dev nD) (i : grid0.Coords) (hi : (i 0).val = 0)
    (a1 : Memref sig .tc .vmem S512x1024 .f32) (h1 : a1.IsWhole) (a2 : Memref sig .tc .vmem S1024x8 .f32) (h2 : a2.IsWhole)
    (a3 : Memref sig .tc .vmem S1x8 .f32) (h3 : a3.IsWhole) (a5 : Memref sig .tc .vmem S1x1x4096 .f32) (h5 : a5.IsWhole)
    (a7 : Memref sig .tc .vmem S1x1x1024 .f32) (h7 : a7.IsWhole) (a8 : Memref sig .tc .vmem S512x1024 .f32) (h8 : a8.IsWhole)
    (f1 : At (F := F) c a1) (f2 : At (F := F) c a2) (f3 : At (F := F) c a3) (f5 : At (F := F) c a5) (f7 : At (F := F) c a7)
    (f8 : At (F := F) c a8) (w1 : At (F := F) c w1M) (w2 : At (F := F) c w2M) (g1 : At (F := F) c s1M) (g2 : At (F := F) c s2M)
    (W : Waits sig Unit) (Q : PUnit → sProp 𝕄) :
    iprop(has c a1 f1 ∗ has c a2 f2 ∗ has c a3 f3 ∗ has c a5 f5 ∗ has c a7 f7 ∗ has c a8 f8 ∗ has c s1M g1 ∗ has c s2M g2
      ∗ has c w1M w1 ∗ has c w2M w2 ∗ idle c ∗ owes (c : Thread nD τ) 0 W
      ∗ (iprop(has c a1 f1 ∗ has c a2 f2 ∗ has c a3 f3 ∗ has c a5 f5 ∗ has c a7 f7
          ∗ (∃ f : At (F := F) c a8, ⌜a8.view.read (Elt F) f = outVal (a1.view.read (Elt F) f1) (a2.view.read (Elt F) f2) (a3.view.read (Elt F) f3)
              (a5.view.read (Elt F) f5) (a7.view.read (Elt F) f7) (slab (0 : Fin 8) w1) (slab (0 : Fin 8) w2)⌝ ∗ has c a8 f)
          ∗ has c s1M (slab (0 : Fin 8) w1) ∗ has c s2M (slab (0 : Fin 8) w2)
          ∗ has c w1M w1 ∗ has c w2M w2 ∗ idle c ∗ ∃ W, owes (c : Thread nD τ) 0 W) -∗ Q ⟨⟩))
    ⊢ wp frame (wpE (defs₀ (F := F)) Variants.none c none) Set.univ
        (cc0__expert_kernel i a1 h1 a2 h2 a3 h3 w1M (Memref.isWhole_whole _) a5 h5 w2M (Memref.isWhole_whole _) a7 h7 a8 h8
          s1M (Memref.isWhole_whole _) s2M (Memref.isWhole_whole _) cc0_scratch2 cc0_scratch3) Q := by
  have hc : Scalar.cmpi .ne (Scalar.extui (Scalar.cmpi .eq (BitVec.ofNat 32 (i 0).val) 0#32) : BitVec 32) 0#32 = 1#1 := by
    rw [hi]; decide
  iintro ⟨H1, H2, H3, H5, H7, H8, S1, S2, HA, HB, ⟨Hd0, Hd1, Hd2, Hd3⟩, HO, Hk⟩
  sl_exec!
  sl_step
  have hA : s1M.view.writes (Elt F) s1M.view.junk
      [⟨Rect.unit ![512, 0] S512x4096.size inb_S1024x4096_S512x4096_512_0, runFirst.sl.dma0_1 c w1⟩,
        ⟨Rect.unit ![0, 0] S512x4096.size inb_S1024x4096_S512x4096_0_0, runFirst.sl.dma0 c w1⟩] = slab (0 : Fin 8) w1 := by
    exact filledA c w1 _ _ (srcA0 c w1 _ _) (srcA1 c w1 _ _)
  have hB : s2M.view.writes (Elt F) s2M.view.junk
      [⟨Rect.unit ![2048, 0] S2048x1024.size inb_S4096x1024_S2048x1024_2048_0, runFirst.sl.dma0_3 c w2⟩,
        ⟨Rect.unit ![0, 0] S2048x1024.size inb_S4096x1024_S2048x1024_0_0, runFirst.sl.dma0_2 c w2⟩] = slab (0 : Fin 8) w2 := by
    exact filledB c w2 _ _ (srcB0 c w2 _ _) (srcB1 c w2 _ _)
  iapply Hk
  isplitl [H1]; · iexact H1
  isplitl [H2]; · iexact H2
  isplitl [H3]; · iexact H3
  isplitl [H5]; · iexact H5
  isplitl [H7]; · iexact H7
  isplitl [H8]
  · iexists _; isplitr
    swap; · iexact H8
    ipureintro
    unfold runFirst.sl.H8_1 runFirst.sl.r runFirst.sl.r_1 runFirst.sl.v38 runFirst.sl.v28
    rw [View.read_writes_full]
    unfold View.readCov
    rw [hA, hB]
    rw [View.readAt_full a1.view, View.readAt_full a2.view, View.readAt_full a3.view, View.readAt_full a5.view, View.readAt_full a7.view,
      View.readAt_full s1M.view, View.readAt_full s2M.view]
    rfl
  rw [hA, hB]
  isplitl [S1]; · iexact S1
  isplitl [S2]; · iexact S2
  isplitl [HA]; · iexact HA
  isplitl [HB]; · iexact HB
  isplitl [Hd0 Hd1 Hd2 Hd3]
  · isplitl [Hd0]; · iexact Hd0
    isplitl [Hd1]; · iexact Hd1
    isplitl [Hd2]; · iexact Hd2
    iexact Hd3
  iexists _; iexact HO

end Cert.KernelIdeal.Body0

end
-- ==== Proof.Region0.lean ====
/-
  The first kernel region: what its blocks, its scratch buffers and its output array hold, point by point, over any
  contents the arrays have when the region is entered.
-/
module

public import proofs.«01_k».proof.Proof.Body0
public import proofs.«01_k».proof.Proof.Gen.KernelIdeal.Regions
public import Idealize.ShloMosaic.Lib.Pipeline.RegionsLoop

@[expose] public section

set_option maxRecDepth 16384

noncomputable section

namespace Cert.KernelIdeal.Region0

open Cert.Slab Cert.KernelIdeal Cert.KernelIdeal.Gen Cert.KernelIdeal.Body0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (Pipeline.UD sig nD τ) ℕ

/-- Contents of every TensorCore buffer, core by core. -/
abbrev Conts (F : FTy → Type) : Type := (c : Dev nD) → (b : Ref sig .tc) → Buf (Elt F) ((c : Thread nD τ).loc b)

variable (V : Conts F)

/-- The block of the tokens that belongs to point `t`. -/
def xB (c : Dev nD) (t : Fin cfg0.N) : Vec F S512x1024 .f32 := ((cfg0.win 0).blk t).view.read (Elt F) (V c main_v0)
/-- The block of the router's weights that belongs to point `t`. -/
def wrB (c : Dev nD) (t : Fin cfg0.N) : Vec F S1024x8 .f32 := ((cfg0.win 1).blk t).view.read (Elt F) (V c main_arg1)
/-- The block of the router's bias that belongs to point `t`. -/
def brB (c : Dev nD) (t : Fin cfg0.N) : Vec F S1x8 .f32 := ((cfg0.win 2).blk t).view.read (Elt F) (V c main_v1)
/-- The block of the first bias that belongs to point `t`. -/
def b1B (c : Dev nD) (t : Fin cfg0.N) : Vec F S1x1x4096 .f32 := ((cfg0.win 3).blk t).view.read (Elt F) (V c main_v2)
/-- The block of the second bias that belongs to point `t`. -/
def b2B (c : Dev nD) (t : Fin cfg0.N) : Vec F S1x1x1024 .f32 := ((cfg0.win 4).blk t).view.read (Elt F) (V c main_v3)

/-- The block the body stores at point `t`. -/
def stored (c : Dev nD) (t : Fin cfg0.N) : Vec F S512x1024 .f32 :=
  outVal (xB V c t) (wrB V c t) (brB V c t) (b1B V c t) (b2B V c t) (slab (0 : Fin 8) (V c main_arg3)) (slab (0 : Fin 8) (V c main_arg5))

/-- A buffer held whole at some contents. -/
abbrev some' (c : Dev nD) (b : Ref sig .tc) : sProp 𝕄 :=
  iprop(∃ f : Buf (Elt F) ((c : Thread nD τ).loc b), ((c : Thread nD τ).loc b) ↦{fullShare} f)

/-- The scoped buffers neither staged nor used as scratch here: the other region's. -/
def others (c : Dev nD) : sProp 𝕄 :=
  iprop(some' c cc1_stg0_0 ∗ some' c cc1_stg0_1 ∗ some' c cc1_stg1_0 ∗ some' c cc1_stg2_0 ∗ some' c cc1_stg3_0 ∗ some' c cc1_stg4_0
    ∗ some' c cc1_stg5_0 ∗ some' c cc1_stg5_1 ∗ some' c cc1_stg6_0 ∗ some' c cc1_stg6_1 ∗ some' c cc1_scratch0 ∗ some' c cc1_scratch1)

/-- The scratch buffers before point `k`: anything before the first, the expert's matrices afterwards. -/
def scratch (c : Dev nD) (k : ℕ) : sProp 𝕄 :=
  if k = 0 then iprop((∃ g : At (F := F) c s1M, has c s1M g) ∗ ∃ g : At (F := F) c s2M, has c s2M g)
  else iprop(has c s1M (slab (0 : Fin 8) (V c main_arg3)) ∗ has c s2M (slab (0 : Fin 8) (V c main_arg5)))

/-- What the body carries from point to point. -/
def inv (c : Dev nD) (k : ℕ) : sProp 𝕄 :=
  iprop(scratch V c k ∗ has c w1M (V c main_arg3) ∗ has c w2M (V c main_arg5) ∗ idle c ∗ others c)

/-- The region's proof data from entry contents `V`. -/
def dat (c : Dev nD) : Dat τ (Elt F) Unit ℕ (Pipeline.UD sig nD τ) ℕ cfg0 c where
  A w := V c (Pipeline.arrRef spec0 w)
  after w t := match w with
    | ⟨0, _⟩ => xB V c t
    | ⟨1, _⟩ => wrB V c t
    | ⟨2, _⟩ => brB V c t
    | ⟨3, _⟩ => b1B V c t
    | ⟨4, _⟩ => b2B V c t
    | ⟨5, _⟩ => stored V c t
  Φ k := inv V c k.val
  q _ := fullShare
  owed _ := 0

/-- Before each point the tokens' staging buffer holds the point's block. -/
theorem before0 (c : Dev nD) (t : Fin cfg0.N) (d) : (dat V c).before 0 t d = xB V c t :=
  (Dat.before_in_eq_fetched _ 0 rfl (fun _ => rfl) (fun _ _ _ => rfl) (fun _ => rfl) t d).trans rfl
/-- Before each point the router's matrix is staged. -/
theorem before1 (c : Dev nD) (t : Fin cfg0.N) (d) : (dat V c).before 1 t d = wrB V c t :=
  (Dat.before_in_eq_fetched _ 1 rfl (fun _ => rfl) (fun _ _ _ => rfl) (fun _ => rfl) t d).trans rfl
/-- Before each point the router's bias is staged. -/
theorem before2 (c : Dev nD) (t : Fin cfg0.N) (d) : (dat V c).before 2 t d = brB V c t :=
  (Dat.before_in_eq_fetched _ 2 rfl (fun _ => rfl) (fun _ _ _ => rfl) (fun _ => rfl) t d).trans rfl
/-- Before each point the expert's first bias is staged. -/
theorem before3 (c : Dev nD) (t : Fin cfg0.N) (d) : (dat V c).before 3 t d = b1B V c t :=
  (Dat.before_in_eq_fetched _ 3 rfl (fun _ => rfl) (fun _ _ _ => rfl) (fun _ => rfl) t d).trans rfl
/-- Before each point the expert's second bias is staged. -/
theorem before4 (c : Dev nD) (t : Fin cfg0.N) (d) : (dat V c).before 4 t d = b2B V c t :=
  (Dat.before_in_eq_fetched _ 4 rfl (fun _ => rfl) (fun _ _ _ => rfl) (fun _ => rfl) t d).trans rfl

/-- On a grid of one axis a point's coordinate is its number. -/
theorem coord_val (t : Fin grid0.N) : (grid0.coords t 0).val = t.val := by
  rcases fin_N0 t with rfl | rfl | rfl | rfl | rfl | rfl | rfl | rfl <;> rfl

/-- The body that runs at a point. -/
theorem row (t : Fin cfg0.N) :
    (defs₀ (F := F)) .tc cfg0.body (cfg0.bodyArgs t (cfg0.slots t)) = bodyAt0 t := by
  unfold defs₀; rw [Defs.onTc_tc]

omit [FloatOps F] [Named F] in
/-- A whole memref owned at what it reads is its buffer held whole at contents that read so. -/
theorem owns_has (c : Dev nD) {sp : Space} {S : Shape} {e : EltTy} (M : Memref sig .tc sp S e) (h : M.IsWhole) (X : S.Idx → Elt F e) :
    (owns (c : Thread nD τ) M fullShare X : sProp 𝕄) = iprop(∃ f : At (F := F) c M, ⌜M.view.read (Elt F) f = X⌝ ∗ has c M f) := by
  unfold owns; rw [h.set_eq_univ]

set_option maxHeartbeats 1600000 in
/-- The body at every point keeps the carried facts and stores `stored`. -/
theorem body_obligation (c : Dev nD) : BodyObligation (dat V c) (defs₀ (F := F)) Variants.none () Set.univ := fun t => by
  rw [bigSep_W0, bigSep_W0]
  have q0 : ∀ X, (owns (c : Thread nD τ) (st0_0 t) fullShare X : sProp 𝕄) = _ := fun X => owns_has c (st0_0 t) (stage_whole0 0 _) X
  have q1 : ∀ X, (owns (c : Thread nD τ) (st0_1 t) fullShare X : sProp 𝕄) = _ := fun X => owns_has c (st0_1 t) (stage_whole0 1 _) X
  have q2 : ∀ X, (owns (c : Thread nD τ) (st0_2 t) fullShare X : sProp 𝕄) = _ := fun X => owns_has c (st0_2 t) (stage_whole0 2 _) X
  have q3 : ∀ X, (owns (c : Thread nD τ) (st0_3 t) fullShare X : sProp 𝕄) = _ := fun X => owns_has c (st0_3 t) (stage_whole0 3 _) X
  have q4 : ∀ X, (owns (c : Thread nD τ) (st0_4 t) fullShare X : sProp 𝕄) = _ := fun X => owns_has c (st0_4 t) (stage_whole0 4 _) X
  have q5 : ∀ X, (owns (c : Thread nD τ) (st0_5 t) fullShare X : sProp 𝕄) = _ := fun X => owns_has c (st0_5 t) (stage_whole0 5 _) X
  simp only [q0, q1, q2, q3, q4, q5]
  rw [show (dat V c).Φ t.castSucc = inv V c t.val from rfl, show (dat V c).Φ t.succ = inv V c (t.val + 1) from rfl,
    show (dat V c).owesAt () t.succ = (dat V c).owesAt () t.castSucc from rfl]
  rw [row]
  unfold inv scratch
  by_cases ht : t.val = 0
  · have hi : (grid0.coords t 0).val = 0 := (coord_val t).trans ht
    rw [if_pos ht, if_neg (Nat.succ_ne_zero _)]
    iintro ⟨⟨HS, HA, HB, Hid, Hoth⟩, Howes, ⟨%d0, %f0, %e0, H0⟩, ⟨%d1, %f1, %e1, H1⟩, ⟨%d2, %f2, %e2, H2⟩, ⟨%d3, %f3, %e3, H3⟩,
      ⟨%d4, %f4, %e4, H4⟩, ⟨%d5, %f5, -, H5⟩⟩
    rw [before0] at e0
    rw [before1] at e1
    rw [before2] at e2
    rw [before3] at e3
    rw [before4] at e4
    icases HS with ⟨⟨%g1, S1⟩, ⟨%g2, S2⟩⟩
    unfold Pipeline.Dat.owesAt Pipeline.owesWithin
    icases Howes with ⟨%W, -, HO⟩
    iapply (runFirst c _ hi _ _ _ _ _ _ _ _ _ _ _ _ f0 f1 f2 f3 f4 f5 (V c main_arg3) (V c main_arg5) g1 g2 W _)
    isplitl [H0]; · iexact H0
    isplitl [H1]; · iexact H1
    isplitl [H2]; · iexact H2
    isplitl [H3]; · iexact H3
    isplitl [H4]; · iexact H4
    isplitl [H5]; · iexact H5
    isplitl [S1]; · iexact S1
    isplitl [S2]; · iexact S2
    isplitl [HA]; · iexact HA
    isplitl [HB]; · iexact HB
    isplitl [Hid]; · iexact Hid
    isplitl [HO]; · iexact HO
    iintro ⟨H0, H1, H2, H3, H4, ⟨%f5', %e5, H5⟩, S1, S2, HA, HB, Hid, ⟨%W', HO⟩⟩
    isplitl [S1 S2 HA HB Hid Hoth]
    · isplitl [S1 S2]
      · isplitl [S1]; · iexact S1
        iexact S2
      isplitl [HA]; · iexact HA
      isplitl [HB]; · iexact HB
      isplitl [Hid]; · iexact Hid
      iexact Hoth
    isplitl [HO]
    · iexists W'; isplitr; · ipureintro; exact fun _ _ => Or.inl trivial
      iexact HO
    isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    iexists f5'; isplitr
    · ipureintro
      refine e5.trans ?_
      show _ = stored V c t
      unfold stored
      rw [← e0, ← e1, ← e2, ← e3, ← e4]
    iexact H5
  · have hi : (grid0.coords t 0).val ≠ 0 := fun h => ht ((coord_val t).symm.trans h)
    rw [if_neg ht, if_neg (Nat.succ_ne_zero _)]
    iintro ⟨⟨HS, HA, HB, Hid, Hoth⟩, Howes, ⟨%d0, %f0, %e0, H0⟩, ⟨%d1, %f1, %e1, H1⟩, ⟨%d2, %f2, %e2, H2⟩, ⟨%d3, %f3, %e3, H3⟩,
      ⟨%d4, %f4, %e4, H4⟩, ⟨%d5, %f5, -, H5⟩⟩
    rw [before0] at e0
    rw [before1] at e1
    rw [before2] at e2
    rw [before3] at e3
    rw [before4] at e4
    icases HS with ⟨S1, S2⟩
    iapply (runLater c _ hi _ _ _ _ _ _ _ _ _ _ _ _ f0 f1 f2 f3 f4 f5 (slab (0 : Fin 8) (V c main_arg3)) (slab (0 : Fin 8) (V c main_arg5)) _)
    isplitl [H0]; · iexact H0
    isplitl [H1]; · iexact H1
    isplitl [H2]; · iexact H2
    isplitl [H3]; · iexact H3
    isplitl [H4]; · iexact H4
    isplitl [H5]; · iexact H5
    isplitl [S1]; · iexact S1
    isplitl [S2]; · iexact S2
    iintro ⟨H0, H1, H2, H3, H4, ⟨%f5', %e5, H5⟩, S1, S2⟩
    isplitl [S1 S2 HA HB Hid Hoth]
    · isplitl [S1 S2]
      · isplitl [S1]; · iexact S1
        iexact S2
      isplitl [HA]; · iexact HA
      isplitl [HB]; · iexact HB
      isplitl [Hid]; · iexact Hid
      iexact Hoth
    isplitl [Howes]; · iexact Howes
    isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    iexists f5'; isplitr
    · ipureintro
      refine e5.trans ?_
      show _ = stored V c t
      unfold stored
      rw [← e0, ← e1, ← e2, ← e3, ← e4]
    iexact H5

/-! ## The region as a segment of the program -/

/-- The body's own semaphores. -/
abbrev osem : Fin 4 → SemLoc sig := fun | 0 => .dma 8 | 1 => .dma 9 | 2 => .dma 10 | 3 => .dma 11

/-- The transfers' semaphores are the call's own. -/
theorem ownSemFacts : Pipeline.OwnSemFacts spec0 osem := by decide

omit [FloatOps F] [Named F] in
/-- The call's own semaphores, named one by one. -/
theorem ownSems0_eq (c : Dev nD) :
    (Pipeline.ownSems0 (Ix := Unit) (Name := ℕ) (U := Pipeline.UD sig nD τ) (Lvl := ℕ) (Val := Elt F) (τ := τ) osem c : sProp 𝕄) = idle c :=
  Pipeline.ownSems0_eq_of_list c osem [0, 1, 2, 3] (by decide) (by decide)

/-- The proof data of the two regions, side by side. -/
def pair (D0 : (c : Dev nD) → Dat τ (Elt F) Unit ℕ (Pipeline.UD sig nD τ) ℕ cfg0 c)
    (D1 : (c : Dev nD) → Dat τ (Elt F) Unit ℕ (Pipeline.UD sig nD τ) ℕ cfg1 c) :
    (p : Fin 2) → (c : Dev nD) → Dat τ (Elt F) Unit ℕ (Pipeline.UD sig nD τ) ℕ (cfgs p) c
  | ⟨0, _⟩ => D0
  | ⟨1, _⟩ => D1

/-- What a core owes between regions: nothing. -/
abbrev owesNothing (c : Dev nD) : sProp 𝕄 := iprop(∃ W, owes (c : Thread nD τ) (0 : CellTallies nD τ sig Unit) W)

/-- The output array after the region. -/
def result (c : Dev nD) : Buf (Elt F) ((c : Thread nD τ).loc main_v4) := (dat V c).arrAt 5 cfg0.N

variable (D1 : (c : Dev nD) → Dat τ (Elt F) Unit ℕ (Pipeline.UD sig nD τ) ℕ cfg1 c)
variable (Vp : Conts F)

set_option backward.isDefEq.respectTransparency.types false in
/-- The region, entered with every buffer at `V` and left with every buffer at `Vp`, which is `V` but for the output. -/
def reg (hout : ∀ c, Vp c main_v4 = result V c) (hne : ∀ c (b : Ref sig .tc), b ≠ main_v4 → Vp c b = V c b) :
    Pipeline.RegionSeg (pcfgs (F := F)) adm (pair (dat V) D1) () defs₀ Variants.none (fun _ => ∅) (fun _ _ => 0) 0 where
  win := launch0.win.to₀
  block_pos := launch0.block_pos
  stage_whole := launch0.stage_whole
  K := Fin 4
  osem := osem
  ho := ownSemFacts
  hbody c := (body_obligation V c).loose
  hwaits := Pipeline.hwaits_of_owed_zero _ _ _ _ (fun _ => ∅) (fun _ _ => 0) 0 fun _ _ => rfl
  pre c := iprop(unscopedBufs c (V c) ∗ owesNothing c)
  post c := iprop(unscopedBufs c (Vp c) ∗ owesNothing c)
  X c := iprop(has c w1M (V c main_arg3) ∗ has c w2M (V c main_arg5) ∗ idle c)
  Y c := iprop(has c w1M (V c main_arg3) ∗ has c w2M (V c main_arg5))
  Z c := iprop((((c : Thread nD τ).loc main_arg0) ↦{fullShare} V c main_arg0) ∗ (((c : Thread nD τ).loc main_arg2) ↦{fullShare} V c main_arg2)
    ∗ (((c : Thread nD τ).loc main_arg4) ↦{fullShare} V c main_arg4) ∗ (((c : Thread nD τ).loc main_arg6) ↦{fullShare} V c main_arg6)
    ∗ (((c : Thread nD τ).loc main_v5) ↦{fullShare} V c main_v5) ∗ (((c : Thread nD τ).loc main_v6) ↦{fullShare} V c main_v6))
  hentry c := by
    rw [ownSems0_eq]
    have hsplit := (Pipeline.arrays_of_unscopedBufs (p := 0) (pcfgs (F := F)) adm (pair (dat V) D1) launch0.win launch0.arr_whole c
      ((pair (dat V) D1 0 c).share_full fun _ => rfl) (V c) fun _ => rfl).trans (sep_mono .rfl (Entails.of_eq (unscopedRest0_eq c (V c))))
    iintro ⟨⟨Hub, HO⟩, Hid, -⟩
    ihave H := hsplit $$ Hub
    icases H with ⟨Ha, Z0, Z2, HA, Z4, HB, Z6, Z7, Z8⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HA HB Hid]
    · isplitl [HA]; · iexact HA
      isplitl [HB]; · iexact HB
      iexact Hid
    isplitl [Z0]; · iexact Z0
    isplitl [Z2]; · iexact Z2
    isplitl [Z4]; · iexact Z4
    isplitl [Z6]; · iexact Z6
    isplitl [Z7]; · iexact Z7
    iexact Z8
  hin c := by
    rw [show (pair (dat V) D1 0 c).Φ 0 = inv V c 0 from rfl]
    unfold inv scratch others
    rw [if_pos rfl]
    have hsc := Entails.of_eq (scopedRest0_eq (Ix := Unit) (Val := Elt F) (Name := ℕ) (U := Pipeline.UD sig nD τ) (Lvl := ℕ) c)
    iintro ⟨⟨HA, HB, Hid⟩, -, Hr⟩
    ihave H := hsc $$ Hr
    icases H with ⟨S1, S2, Ho⟩
    isplitl [S1 S2]
    · isplitl [S1]; · iexact S1
      iexact S2
    isplitl [HA]; · iexact HA
    isplitl [HB]; · iexact HB
    isplitl [Hid]; · iexact Hid
    iexact Ho
  hout c := by
    rw [ownSems0_eq, show (pair (dat V) D1 0 c).Φ (Fin.last _) = inv V c 8 from rfl]
    unfold inv scratch others
    rw [if_neg (by decide)]
    have hsc := Entails.of_eq (scopedRest0_eq (Ix := Unit) (Val := Elt F) (Name := ℕ) (U := Pipeline.UD sig nD τ) (Lvl := ℕ) c).symm
    iintro ⟨⟨S1, S2⟩, HA, HB, Hid, Ho⟩
    isplitl [HA HB]
    · isplitl [HA]; · iexact HA
      iexact HB
    isplitl [Hid]; · iexact Hid
    iapply hsc
    isplitl [S1]; · iexists _; iexact S1
    isplitl [S2]; · iexists _; iexact S2
    iexact Ho
  hexit c := by
    have hjoin := (sep_mono .rfl (Entails.of_eq (unscopedRest0_eq c (V c)).symm)).trans
      (Pipeline.unscopedBufs_of_arrays (p := 0) (pcfgs (F := F)) adm (Ix := Unit) (Name := ℕ) (U := Pipeline.UD sig nD τ) (Lvl := ℕ) launch0.win
        launch0.arr_whole c (pair (dat V) D1) ((pair (dat V) D1 0 c).share_full fun _ => rfl) (V c) (Vp c) ((pair (dat V) D1 0 c).arrAt · cfg0.N)
        (fun w => by
          fin_cases w
          · exact ((pair (dat V) D1 0 c).arrAt_in 0 rfl _).trans (hne c main_v0 (by decide)).symm
          · exact ((pair (dat V) D1 0 c).arrAt_in 1 rfl _).trans (hne c main_arg1 (by decide)).symm
          · exact ((pair (dat V) D1 0 c).arrAt_in 2 rfl _).trans (hne c main_v1 (by decide)).symm
          · exact ((pair (dat V) D1 0 c).arrAt_in 3 rfl _).trans (hne c main_v2 (by decide)).symm
          · exact ((pair (dat V) D1 0 c).arrAt_in 4 rfl _).trans (hne c main_v3 (by decide)).symm
          · exact (hout c).symm)
        (fun b hb => hne c b fun h => hb (h ▸ Finset.mem_image.mpr ⟨5, Finset.mem_univ _, rfl⟩)))
    iintro ⟨Ha, HO, ⟨HA, HB⟩, Z0, Z2, Z4, Z6, Z7, Z8⟩
    imodintro
    isplitr [HO]
    · iapply hjoin
      isplitl [Ha]; · iexact Ha
      isplitl [Z0]; · iexact Z0
      isplitl [Z2]; · iexact Z2
      isplitl [HA]; · iexact HA
      isplitl [Z4]; · iexact Z4
      isplitl [HB]; · iexact HB
      isplitl [Z6]; · iexact Z6
      isplitl [Z7]; · iexact Z7
      iexact Z8
    unfold Pipeline.Dat.owesAt Pipeline.owesWithin
    icases HO with ⟨%W, -, HO⟩; iexists W; iexact HO

end Cert.KernelIdeal.Region0

end
-- ==== Proof.Body1.lean ====
/-
  The second expert's kernel body, run once.  At the first grid point it copies the expert's two weight matrices from
  HBM into its scratch buffers by four transfers and waits for them; at every later point it finds them there.  Both
  runs are stated for any float values.
-/
module

public import proofs.«01_k».proof.Proof.Slab
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Body1

open Cert.Slab Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- What memref `M`'s buffer on core `c` may hold. -/
abbrev At (c : Dev nD) {sp : Space} {S : Shape} {e : EltTy} (M : Memref sig .tc sp S e) : Type := Buf (Elt F) (M.view.loc (c : Thread nD τ))
/-- Memref `M`'s buffer on core `c`, owned whole with contents `f`. -/
abbrev has (c : Dev nD) {sp : Space} {S : Shape} {e : EltTy} (M : Memref sig .tc sp S e) (f : At (F := F) c M) : sProp 𝕄 :=
  M.view.loc (c : Thread nD τ) ↦{fullShare} f

/-- The stack of first matrices. -/
abbrev w1M : Memref sig .tc .hbm S8x1024x4096 .f32 := Memref.whole main_arg3
/-- The stack of second matrices. -/
abbrev w2M : Memref sig .tc .hbm S8x4096x1024 .f32 := Memref.whole main_arg5
/-- The scratch buffer of the first matrix. -/
abbrev s1M : Memref sig .tc .vmem S1024x4096 .f32 := Memref.whole cc1_scratch0
/-- The scratch buffer of the second matrix. -/
abbrev s2M : Memref sig .tc .vmem S4096x1024 .f32 := Memref.whole cc1_scratch1

/-- The body's four own semaphores at zero. -/
abbrev idle (c : Dev nD) : sProp 𝕄 :=
  iprop(semVal ((c : Thread nD τ), SemLoc.dma 22) 0 ∗ semVal ((c : Thread nD τ), SemLoc.dma 23) 0
    ∗ semVal ((c : Thread nD τ), SemLoc.dma 24) 0 ∗ semVal ((c : Thread nD τ), SemLoc.dma 25) 0)

/-- The block the body stores, of the blocks it reads and the two weight matrices. -/
def outVal (x : Vec F S512x1024 .f32) (wr : Vec F S1024x8 .f32) (br : Vec F S1x8 .f32) (b1 : Vec F S1x1x4096 .f32) (b2 : Vec F S1x1x1024 .f32)
    (prev : Vec F S512x1024 .f32) (A : Vec F S1024x4096 .f32) (B : Vec F S4096x1024 .f32) : Vec F S512x1024 .f32 :=
  k1_pay1 (k1_pay3 x wr br) (k1_pay4 x A) b1 B prev b2

/-! What each of the four transfers carries: rows of one member of a stack. -/

/-- The first half of the first matrix. -/
theorem srcA0 (c : Dev nD) (w : At (F := F) c w1M) (hr) (hq) (x : S512x4096.Idx) (i : Fin 1024) (j : Fin 4096) (hi : i.val = 0 + (x 0).val)
    (hj : j.val = (x 1).val) :
    ReadAs.same.apply (View.read (Elt F) ((w1M.slice (Rect.unit (s := S8x1024x4096) ![1, 0, 0] S1x512x4096.size inb_S8x1024x4096_S1x512x4096_1_0_0) hr).squeeze S512x4096 hq).view w) x
      = w1M.view.read (Elt F) w (ValueIdx.ix3 (1 : Fin 8) i j) :=
  part_read (Val := Elt F) (m := 8) (a := 1024) (b := 4096) (h := 512) w1M 1 0 inb_S8x1024x4096_S1x512x4096_1_0_0 hr hq w (by decide) x i j hi hj

/-- The second half of the first matrix. -/
theorem srcA1 (c : Dev nD) (w : At (F := F) c w1M) (hr) (hq) (x : S512x4096.Idx) (i : Fin 1024) (j : Fin 4096) (hi : i.val = 512 + (x 0).val)
    (hj : j.val = (x 1).val) :
    ReadAs.same.apply (View.read (Elt F) ((w1M.slice (Rect.unit (s := S8x1024x4096) ![1, 512, 0] S1x512x4096.size inb_S8x1024x4096_S1x512x4096_1_512_0) hr).squeeze S512x4096 hq).view w) x
      = w1M.view.read (Elt F) w (ValueIdx.ix3 (1 : Fin 8) i j) :=
  part_read (Val := Elt F) (m := 8) (a := 1024) (b := 4096) (h := 512) w1M 1 512 inb_S8x1024x4096_S1x512x4096_1_512_0 hr hq w (by decide) x i j hi hj

/-- The first half of the second matrix. -/
theorem srcB0 (c : Dev nD) (w : At (F := F) c w2M) (hr) (hq) (x : S2048x1024.Idx) (i : Fin 4096) (j : Fin 1024) (hi : i.val = 0 + (x 0).val)
    (hj : j.val = (x 1).val) :
    ReadAs.same.apply (View.read (Elt F) ((w2M.slice (Rect.unit (s := S8x4096x1024) ![1, 0, 0] S1x2048x1024.size inb_S8x4096x1024_S1x2048x1024_1_0_0) hr).squeeze S2048x1024 hq).view w) x
      = w2M.view.read (Elt F) w (ValueIdx.ix3 (1 : Fin 8) i j) :=
  part_read (Val := Elt F) (m := 8) (a := 4096) (b := 1024) (h := 2048) w2M 1 0 inb_S8x4096x1024_S1x2048x1024_1_0_0 hr hq w (by decide) x i j hi hj

/-- The second half of the second matrix. -/
theorem srcB1 (c : Dev nD) (w : At (F := F) c w2M) (hr) (hq) (x : S2048x1024.Idx) (i : Fin 4096) (j : Fin 1024) (hi : i.val = 2048 + (x 0).val)
    (hj : j.val = (x 1).val) :
    ReadAs.same.apply (View.read (Elt F) ((w2M.slice (Rect.unit (s := S8x4096x1024) ![1, 2048, 0] S1x2048x1024.size inb_S8x4096x1024_S1x2048x1024_1_2048_0) hr).squeeze S2048x1024 hq).view w) x
      = w2M.view.read (Elt F) w (ValueIdx.ix3 (1 : Fin 8) i j) :=
  part_read (Val := Elt F) (m := 8) (a := 4096) (b := 1024) (h := 2048) w2M 1 2048 inb_S8x4096x1024_S1x2048x1024_1_2048_0 hr hq w (by decide) x i j hi hj

/-- The two halves of the expert's matrix, transferred one after the other: the buffer holds the matrix. -/
theorem filledA (c : Dev nD) (w : At (F := F) c w1M) (u₀ u₁ : S512x4096.Idx → Elt F .f32)
    (e₀ : ∀ (x : S512x4096.Idx) (i : Fin 1024) (j : Fin 4096), i.val = 0 + (x 0).val → j.val = (x 1).val → u₀ x = w1M.view.read (Elt F) w (ValueIdx.ix3 (1 : Fin 8) i j))
    (e₁ : ∀ (x : S512x4096.Idx) (i : Fin 1024) (j : Fin 4096), i.val = 512 + (x 0).val → j.val = (x 1).val → u₁ x = w1M.view.read (Elt F) w (ValueIdx.ix3 (1 : Fin 8) i j)) :
    (s1M.view.writes (Elt F) s1M.view.junk [⟨Rect.unit ![512, 0] S512x4096.size inb_S1024x4096_S512x4096_512_0, u₁⟩, ⟨Rect.unit ![0, 0] S512x4096.size inb_S1024x4096_S512x4096_0_0, u₀⟩] : At (F := F) c s1M)
      = slab (m := 8) (a := 1024) (b := 4096) 1 w := by
  refine (View.read_whole cc1_scratch0 _).symm.trans ?_
  exact halves_read (Val := Elt F) (m := 8) (a := 1024) (b := 4096) (h := 512) s1M.view s1M.view.junk w1M w (1 : Fin 8) rfl
      inb_S1024x4096_S512x4096_0_0 inb_S1024x4096_S512x4096_512_0 u₀ u₁ e₀ e₁

/-- The two halves of the expert's matrix, transferred one after the other: the buffer holds the matrix. -/
theorem filledB (c : Dev nD) (w : At (F := F) c w2M) (u₀ u₁ : S2048x1024.Idx → Elt F .f32)
    (e₀ : ∀ (x : S2048x1024.Idx) (i : Fin 4096) (j : Fin 1024), i.val = 0 + (x 0).val → j.val = (x 1).val → u₀ x = w2M.view.read (Elt F) w (ValueIdx.ix3 (1 : Fin 8) i j))
    (e₁ : ∀ (x : S2048x1024.Idx) (i : Fin 4096) (j : Fin 1024), i.val = 2048 + (x 0).val → j.val = (x 1).val → u₁ x = w2M.view.read (Elt F) w (ValueIdx.ix3 (1 : Fin 8) i j)) :
    (s2M.view.writes (Elt F) s2M.view.junk [⟨Rect.unit ![2048, 0] S2048x1024.size inb_S4096x1024_S2048x1024_2048_0, u₁⟩, ⟨Rect.unit ![0, 0] S2048x1024.size inb_S4096x1024_S2048x1024_0_0, u₀⟩] : At (F := F) c s2M)
      = slab (m := 8) (a := 4096) (b := 1024) 1 w := by
  refine (View.read_whole cc1_scratch1 _).symm.trans ?_
  exact halves_read (Val := Elt F) (m := 8) (a := 4096) (b := 1024) (h := 2048) s2M.view s2M.view.junk w2M w (1 : Fin 8) rfl
      inb_S4096x1024_S2048x1024_0_0 inb_S4096x1024_S2048x1024_2048_0 u₀ u₁ e₀ e₁

/-- A later point: the scratch buffers already hold the weights, nothing is transferred; the stored block is `outVal`. -/
theorem runLater (c : Dev nD) (i : grid1.Coords) (hi : (i 0).val ≠ 0)
    (a1 : Memref sig .tc .vmem S512x1024 .f32) (h1 : a1.IsWhole) (a2 : Memref sig .tc .vmem S1024x8 .f32) (h2 : a2.IsWhole)
    (a3 : Memref sig .tc .vmem S1x8 .f32) (h3 : a3.IsWhole) (a5 : Memref sig .tc .vmem S1x1x4096 .f32) (h5 : a5.IsWhole)
    (a7 : Memref sig .tc .vmem S1x1x1024 .f32) (h7 : a7.IsWhole) (a8 : Memref sig .tc .vmem S512x1024 .f32) (h8 : a8.IsWhole)
    (a9 : Memref sig .tc .vmem S512x1024 .f32) (h9 : a9.IsWhole)
    (f1 : At (F := F) c a1) (f2 : At (F := F) c a2) (f3 : At (F := F) c a3) (f5 : At (F := F) c a5) (f7 : At (F := F) c a7)
    (f8 : At (F := F) c a8) (f9 : At (F := F) c a9) (g1 : At (F := F) c s1M) (g2 : At (F := F) c s2M) (Q : PUnit → sProp 𝕄) :
    iprop(has c a1 f1 ∗ has c a2 f2 ∗ has c a3 f3 ∗ has c a5 f5 ∗ has c a7 f7 ∗ has c a8 f8 ∗ has c a9 f9 ∗ has c s1M g1 ∗ has c s2M g2
      ∗ (iprop(has c a1 f1 ∗ has c a2 f2 ∗ has c a3 f3 ∗ has c a5 f5 ∗ has c a7 f7 ∗ has c a8 f8
          ∗ (∃ f : At (F := F) c a9, ⌜a9.view.read (Elt F) f = outVal (a1.view.read (Elt F) f1) (a2.view.read (Elt F) f2) (a3.view.read (Elt F) f3)
              (a5.view.read (Elt F) f5) (a7.view.read (Elt F) f7) (a8.view.read (Elt F) f8) g1 g2⌝ ∗ has c a9 f) ∗ has c s1M g1 ∗ has c s2M g2) -∗ Q ⟨⟩))
    ⊢ wp frame (wpE (defs₀ (F := F)) Variants.none c none) Set.univ
        (cc1__expert_kernel i a1 h1 a2 h2 a3 h3 w1M (Memref.isWhole_whole _) a5 h5 w2M (Memref.isWhole_whole _) a7 h7 a8 h8 a9 h9
          s1M (Memref.isWhole_whole _) s2M (Memref.isWhole_whole _) cc1_scratch2 cc1_scratch3) Q := by
  have hlt : (i 0).val < 8 := (i 0).isLt
  have hc : ¬ (Scalar.cmpi .ne (Scalar.extui (Scalar.cmpi .eq (BitVec.ofNat 32 (i 0).val) 0#32) : BitVec 32) 0#32 = 1#1) := by
    have hk : ∀ k : Fin 8, k.val ≠ 0 →
        ¬ (Scalar.cmpi .ne (Scalar.extui (Scalar.cmpi .eq (BitVec.ofNat 32 k.val) 0#32) : BitVec 32) 0#32 = 1#1) := by decide
    exact hk ⟨(i 0).val, hlt⟩ hi
  iintro ⟨H1, H2, H3, H5, H7, H8, H9, S1, S2, Hk⟩
  sl_exec!
  sl_step
  iapply Hk
  isplitl [H1]; · iexact H1
  isplitl [H2]; · iexact H2
  isplitl [H3]; · iexact H3
  isplitl [H5]; · iexact H5
  isplitl [H7]; · iexact H7
  isplitl [H8]; · iexact H8
  isplitl [H9]
  · iexists _; isplitr
    swap; · iexact H9
    ipureintro
    unfold runLater.sl.H9_1 runLater.sl.r runLater.sl.r_1
    rw [View.read_writes_full]
    rw [View.readAt_full a1.view, View.readAt_full a2.view, View.readAt_full a3.view, View.readAt_full a5.view, View.readAt_full a7.view, View.readAt_full a8.view,
      View.readAt_full s1M.view, View.readAt_full s2M.view]
    rfl
  isplitl [S1]; · iexact S1
  iexact S2

set_option maxHeartbeats 800000 in
set_option sl_exec.dmaWindow true in
/-- The first point: the weights are transferred from the stacks into the scratch buffers and waited for; the stored block is `outVal`
    of the expert's matrices, which the scratch buffers hold afterwards. -/
theorem runFirst (c : Dev nD) (i : grid1.Coords) (hi : (i 0).val = 0)
    (a1 : Memref sig .tc .vmem S512x1024 .f32) (h1 : a1.IsWhole) (a2 : Memref sig .tc .vmem S1024x8 .f32) (h2 : a2.IsWhole)
    (a3 : Memref sig .tc .vmem S1x8 .f32) (h3 : a3.IsWhole) (a5 : Memref sig .tc .vmem S1x1x4096 .f32) (h5 : a5.IsWhole)
    (a7 : Memref sig .tc .vmem S1x1x1024 .f32) (h7 : a7.IsWhole) (a8 : Memref sig .tc .vmem S512x1024 .f32) (h8 : a8.IsWhole)
    (a9 : Memref sig .tc .vmem S512x1024 .f32) (h9 : a9.IsWhole)
    (f1 : At (F := F) c a1) (f2 : At (F := F) c a2) (f3 : At (F := F) c a3) (f5 : At (F := F) c a5) (f7 : At (F := F) c a7)
    (f8 : At (F := F) c a8) (f9 : At (F := F) c a9) (w1 : At (F := F) c w1M) (w2 : At (F := F) c w2M) (g1 : At (F := F) c s1M) (g2 : At (F := F) c s2M)
    (W : Waits sig Unit) (Q : PUnit → sProp 𝕄) :
    iprop(has c a1 f1 ∗ has c a2 f2 ∗ has c a3 f3 ∗ has c a5 f5 ∗ has c a7 f7 ∗ has c a8 f8 ∗ has c a9 f9 ∗ has c s1M g1 ∗ has c s2M g2
      ∗ has c w1M w1 ∗ has c w2M w2 ∗ idle c ∗ owes (c : Thread nD τ) 0 W
      ∗ (iprop(has c a1 f1 ∗ has c a2 f2 ∗ has c a3 f3 ∗ has c a5 f5 ∗ has c a7 f7 ∗ has c a8 f8
          ∗ (∃ f : At (F := F) c a9, ⌜a9.view.read (Elt F) f = outVal (a1.view.read (Elt F) f1) (a2.view.read (Elt F) f2) (a3.view.read (Elt F) f3)
              (a5.view.read (Elt F) f5) (a7.view.read (Elt F) f7) (a8.view.read (Elt F) f8) (slab (1 : Fin 8) w1) (slab (1 : Fin 8) w2)⌝ ∗ has c a9 f)
          ∗ has c s1M (slab (1 : Fin 8) w1) ∗ has c s2M (slab (1 : Fin 8) w2)
          ∗ has c w1M w1 ∗ has c w2M w2 ∗ idle c ∗ ∃ W, owes (c : Thread nD τ) 0 W) -∗ Q ⟨⟩))
    ⊢ wp frame (wpE (defs₀ (F := F)) Variants.none c none) Set.univ
        (cc1__expert_kernel i a1 h1 a2 h2 a3 h3 w1M (Memref.isWhole_whole _) a5 h5 w2M (Memref.isWhole_whole _) a7 h7 a8 h8 a9 h9
          s1M (Memref.isWhole_whole _) s2M (Memref.isWhole_whole _) cc1_scratch2 cc1_scratch3) Q := by
  have hc : Scalar.cmpi .ne (Scalar.extui (Scalar.cmpi .eq (BitVec.ofNat 32 (i 0).val) 0#32) : BitVec 32) 0#32 = 1#1 := by
    rw [hi]; decide
  iintro ⟨H1, H2, H3, H5, H7, H8, H9, S1, S2, HA, HB, ⟨Hd0, Hd1, Hd2, Hd3⟩, HO, Hk⟩
  sl_exec!
  sl_step
  have hA : s1M.view.writes (Elt F) s1M.view.junk
      [⟨Rect.unit ![512, 0] S512x4096.size inb_S1024x4096_S512x4096_512_0, runFirst.sl.dma0_1 c w1⟩,
        ⟨Rect.unit ![0, 0] S512x4096.size inb_S1024x4096_S512x4096_0_0, runFirst.sl.dma0 c w1⟩] = slab (1 : Fin 8) w1 := by
    exact filledA c w1 _ _ (srcA0 c w1 _ _) (srcA1 c w1 _ _)
  have hB : s2M.view.writes (Elt F) s2M.view.junk
      [⟨Rect.unit ![2048, 0] S2048x1024.size inb_S4096x1024_S2048x1024_2048_0, runFirst.sl.dma0_3 c w2⟩,
        ⟨Rect.unit ![0, 0] S2048x1024.size inb_S4096x1024_S2048x1024_0_0, runFirst.sl.dma0_2 c w2⟩] = slab (1 : Fin 8) w2 := by
    exact filledB c w2 _ _ (srcB0 c w2 _ _) (srcB1 c w2 _ _)
  iapply Hk
  isplitl [H1]; · iexact H1
  isplitl [H2]; · iexact H2
  isplitl [H3]; · iexact H3
  isplitl [H5]; · iexact H5
  isplitl [H7]; · iexact H7
  isplitl [H8]; · iexact H8
  isplitl [H9]
  · iexists _; isplitr
    swap; · iexact H9
    ipureintro
    unfold runFirst.sl.H9_1 runFirst.sl.r runFirst.sl.r_1 runFirst.sl.v38 runFirst.sl.v28
    rw [View.read_writes_full]
    unfold View.readCov
    rw [hA, hB]
    rw [View.readAt_full a1.view, View.readAt_full a2.view, View.readAt_full a3.view, View.readAt_full a5.view, View.readAt_full a7.view, View.readAt_full a8.view,
      View.readAt_full s1M.view, View.readAt_full s2M.view]
    rfl
  rw [hA, hB]
  isplitl [S1]; · iexact S1
  isplitl [S2]; · iexact S2
  isplitl [HA]; · iexact HA
  isplitl [HB]; · iexact HB
  isplitl [Hd0 Hd1 Hd2 Hd3]
  · isplitl [Hd0]; · iexact Hd0
    isplitl [Hd1]; · iexact Hd1
    isplitl [Hd2]; · iexact Hd2
    iexact Hd3
  iexists _; iexact HO

end Cert.KernelIdeal.Body1

end
-- ==== Proof.Region1.lean ====
/-
  The second kernel region: what its blocks, its scratch buffers and its output array hold, point by point, over any
  contents the arrays have when the region is entered.
-/
module

public import proofs.«01_k».proof.Proof.Body1
public import proofs.«01_k».proof.Proof.Region0
public import proofs.«01_k».proof.Proof.Gen.KernelIdeal.Regions
public import Idealize.ShloMosaic.Lib.Pipeline.RegionsLoop

@[expose] public section

set_option maxRecDepth 16384

noncomputable section

namespace Cert.KernelIdeal.Region1

open Cert.Slab Cert.KernelIdeal Cert.KernelIdeal.Gen Cert.KernelIdeal.Body1
open Cert.KernelIdeal.Region0 (Conts pair owesNothing)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (Pipeline.UD sig nD τ) ℕ

variable (V : Conts F)

/-- The block of the tokens that belongs to point `t`. -/
def xB (c : Dev nD) (t : Fin cfg1.N) : Vec F S512x1024 .f32 := ((cfg1.win 0).blk t).view.read (Elt F) (V c main_v0)
/-- The block of the router's weights that belongs to point `t`. -/
def wrB (c : Dev nD) (t : Fin cfg1.N) : Vec F S1024x8 .f32 := ((cfg1.win 1).blk t).view.read (Elt F) (V c main_arg1)
/-- The block of the router's bias that belongs to point `t`. -/
def brB (c : Dev nD) (t : Fin cfg1.N) : Vec F S1x8 .f32 := ((cfg1.win 2).blk t).view.read (Elt F) (V c main_v1)
/-- The block of the first bias that belongs to point `t`. -/
def b1B (c : Dev nD) (t : Fin cfg1.N) : Vec F S1x1x4096 .f32 := ((cfg1.win 3).blk t).view.read (Elt F) (V c main_v2)
/-- The block of the second bias that belongs to point `t`. -/
def b2B (c : Dev nD) (t : Fin cfg1.N) : Vec F S1x1x1024 .f32 := ((cfg1.win 4).blk t).view.read (Elt F) (V c main_v3)
/-- The block of the first region's output that belongs to point `t`. -/
def prevB (c : Dev nD) (t : Fin cfg1.N) : Vec F S512x1024 .f32 := ((cfg1.win 5).blk t).view.read (Elt F) (V c main_v4)

/-- The block the body stores at point `t`. -/
def stored (c : Dev nD) (t : Fin cfg1.N) : Vec F S512x1024 .f32 :=
  outVal (xB V c t) (wrB V c t) (brB V c t) (b1B V c t) (b2B V c t) (prevB V c t) (slab (1 : Fin 8) (V c main_arg3)) (slab (1 : Fin 8) (V c main_arg5))

/-- A buffer held whole at some contents. -/
abbrev some' (c : Dev nD) (b : Ref sig .tc) : sProp 𝕄 :=
  iprop(∃ f : Buf (Elt F) ((c : Thread nD τ).loc b), ((c : Thread nD τ).loc b) ↦{fullShare} f)

/-- The scoped buffers neither staged nor used as scratch here: the other region's. -/
def others (c : Dev nD) : sProp 𝕄 :=
  iprop(some' c cc0_stg0_0 ∗ some' c cc0_stg0_1 ∗ some' c cc0_stg1_0 ∗ some' c cc0_stg2_0 ∗ some' c cc0_stg3_0 ∗ some' c cc0_stg4_0
    ∗ some' c cc0_stg5_0 ∗ some' c cc0_stg5_1 ∗ some' c cc0_scratch0 ∗ some' c cc0_scratch1)

/-- The scratch buffers before point `k`: anything before the first, the expert's matrices afterwards. -/
def scratch (c : Dev nD) (k : ℕ) : sProp 𝕄 :=
  if k = 0 then iprop((∃ g : At (F := F) c s1M, has c s1M g) ∗ ∃ g : At (F := F) c s2M, has c s2M g)
  else iprop(has c s1M (slab (1 : Fin 8) (V c main_arg3)) ∗ has c s2M (slab (1 : Fin 8) (V c main_arg5)))

/-- What the body carries from point to point. -/
def inv (c : Dev nD) (k : ℕ) : sProp 𝕄 :=
  iprop(scratch V c k ∗ has c w1M (V c main_arg3) ∗ has c w2M (V c main_arg5) ∗ idle c ∗ others c)

/-- The region's proof data from entry contents `V`. -/
def dat (c : Dev nD) : Dat τ (Elt F) Unit ℕ (Pipeline.UD sig nD τ) ℕ cfg1 c where
  A w := V c (Pipeline.arrRef spec1 w)
  after w t := match w with
    | ⟨0, _⟩ => xB V c t
    | ⟨1, _⟩ => wrB V c t
    | ⟨2, _⟩ => brB V c t
    | ⟨3, _⟩ => b1B V c t
    | ⟨4, _⟩ => b2B V c t
    | ⟨5, _⟩ => prevB V c t
    | ⟨6, _⟩ => stored V c t
  Φ k := inv V c k.val
  q _ := fullShare
  owed _ := 0

/-- Before each point the tokens' staging buffer holds the point's block. -/
theorem before0 (c : Dev nD) (t : Fin cfg1.N) (d) : (dat V c).before 0 t d = xB V c t :=
  (Dat.before_in_eq_fetched _ 0 rfl (fun _ => rfl) (fun _ _ _ => rfl) (fun _ => rfl) t d).trans rfl
/-- Before each point the router's matrix is staged. -/
theorem before1 (c : Dev nD) (t : Fin cfg1.N) (d) : (dat V c).before 1 t d = wrB V c t :=
  (Dat.before_in_eq_fetched _ 1 rfl (fun _ => rfl) (fun _ _ _ => rfl) (fun _ => rfl) t d).trans rfl
/-- Before each point the router's bias is staged. -/
theorem before2 (c : Dev nD) (t : Fin cfg1.N) (d) : (dat V c).before 2 t d = brB V c t :=
  (Dat.before_in_eq_fetched _ 2 rfl (fun _ => rfl) (fun _ _ _ => rfl) (fun _ => rfl) t d).trans rfl
/-- Before each point the expert's first bias is staged. -/
theorem before3 (c : Dev nD) (t : Fin cfg1.N) (d) : (dat V c).before 3 t d = b1B V c t :=
  (Dat.before_in_eq_fetched _ 3 rfl (fun _ => rfl) (fun _ _ _ => rfl) (fun _ => rfl) t d).trans rfl
/-- Before each point the expert's second bias is staged. -/
theorem before4 (c : Dev nD) (t : Fin cfg1.N) (d) : (dat V c).before 4 t d = b2B V c t :=
  (Dat.before_in_eq_fetched _ 4 rfl (fun _ => rfl) (fun _ _ _ => rfl) (fun _ => rfl) t d).trans rfl

/-- Before each point the first call's block is staged. -/
theorem before5 (c : Dev nD) (t : Fin cfg1.N) (d) : (dat V c).before 5 t d = prevB V c t :=
  (Dat.before_in_eq_fetched _ 5 rfl (fun _ => rfl) (fun _ _ _ => rfl) (fun _ => rfl) t d).trans rfl

/-- On a grid of one axis a point's coordinate is its number. -/
theorem coord_val (t : Fin grid1.N) : (grid1.coords t 0).val = t.val := by
  rcases fin_N1 t with rfl | rfl | rfl | rfl | rfl | rfl | rfl | rfl <;> rfl

/-- The body that runs at a point. -/
theorem row (t : Fin cfg1.N) :
    (defs₀ (F := F)) .tc cfg1.body (cfg1.bodyArgs t (cfg1.slots t)) = bodyAt1 t := by
  unfold defs₀; rw [Defs.onTc_tc]

omit [FloatOps F] [Named F] in
/-- A whole memref owned at what it reads is its buffer held whole at contents that read so. -/
theorem owns_has (c : Dev nD) {sp : Space} {S : Shape} {e : EltTy} (M : Memref sig .tc sp S e) (h : M.IsWhole) (X : S.Idx → Elt F e) :
    (owns (c : Thread nD τ) M fullShare X : sProp 𝕄) = iprop(∃ f : At (F := F) c M, ⌜M.view.read (Elt F) f = X⌝ ∗ has c M f) := by
  unfold owns; rw [h.set_eq_univ]

set_option maxHeartbeats 1600000 in
/-- The body at every point keeps the carried facts and stores `stored`. -/
theorem body_obligation (c : Dev nD) : BodyObligation (dat V c) (defs₀ (F := F)) Variants.none () Set.univ := fun t => by
  rw [bigSep_W1, bigSep_W1]
  have q0 : ∀ X, (owns (c : Thread nD τ) (st1_0 t) fullShare X : sProp 𝕄) = _ := fun X => owns_has c (st1_0 t) (stage_whole1 0 _) X
  have q1 : ∀ X, (owns (c : Thread nD τ) (st1_1 t) fullShare X : sProp 𝕄) = _ := fun X => owns_has c (st1_1 t) (stage_whole1 1 _) X
  have q2 : ∀ X, (owns (c : Thread nD τ) (st1_2 t) fullShare X : sProp 𝕄) = _ := fun X => owns_has c (st1_2 t) (stage_whole1 2 _) X
  have q3 : ∀ X, (owns (c : Thread nD τ) (st1_3 t) fullShare X : sProp 𝕄) = _ := fun X => owns_has c (st1_3 t) (stage_whole1 3 _) X
  have q4 : ∀ X, (owns (c : Thread nD τ) (st1_4 t) fullShare X : sProp 𝕄) = _ := fun X => owns_has c (st1_4 t) (stage_whole1 4 _) X
  have q5 : ∀ X, (owns (c : Thread nD τ) (st1_5 t) fullShare X : sProp 𝕄) = _ := fun X => owns_has c (st1_5 t) (stage_whole1 5 _) X
  have q6 : ∀ X, (owns (c : Thread nD τ) (st1_6 t) fullShare X : sProp 𝕄) = _ := fun X => owns_has c (st1_6 t) (stage_whole1 6 _) X
  simp only [q0, q1, q2, q3, q4, q5, q6]
  rw [show (dat V c).Φ t.castSucc = inv V c t.val from rfl, show (dat V c).Φ t.succ = inv V c (t.val + 1) from rfl,
    show (dat V c).owesAt () t.succ = (dat V c).owesAt () t.castSucc from rfl]
  rw [row]
  unfold inv scratch
  by_cases ht : t.val = 0
  · have hi : (grid1.coords t 0).val = 0 := (coord_val t).trans ht
    rw [if_pos ht, if_neg (Nat.succ_ne_zero _)]
    iintro ⟨⟨HS, HA, HB, Hid, Hoth⟩, Howes, ⟨%d0, %f0, %e0, H0⟩, ⟨%d1, %f1, %e1, H1⟩, ⟨%d2, %f2, %e2, H2⟩, ⟨%d3, %f3, %e3, H3⟩,
      ⟨%d4, %f4, %e4, H4⟩, ⟨%d5, %f5, %e5, H5⟩, ⟨%d6, %f6, -, H6⟩⟩
    rw [before0] at e0
    rw [before1] at e1
    rw [before2] at e2
    rw [before3] at e3
    rw [before4] at e4
    rw [before5] at e5
    icases HS with ⟨⟨%g1, S1⟩, ⟨%g2, S2⟩⟩
    unfold Pipeline.Dat.owesAt Pipeline.owesWithin
    icases Howes with ⟨%W, -, HO⟩
    iapply (runFirst c _ hi _ _ _ _ _ _ _ _ _ _ _ _ _ _ f0 f1 f2 f3 f4 f5 f6 (V c main_arg3) (V c main_arg5) g1 g2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S1]; · iexact S1
    isplitl [S2]; · iexact S2
    isplitl [HA]; · iexact HA
    isplitl [HB]; · iexact HB
    isplitl [Hid]; · iexact Hid
    isplitl [HO]; · iexact HO
    iintro ⟨H0, H1, H2, H3, H4, H5, ⟨%f6', %e6, H6⟩, S1, S2, HA, HB, Hid, ⟨%W', HO⟩⟩
    isplitl [S1 S2 HA HB Hid Hoth]
    · isplitl [S1 S2]
      · isplitl [S1]; · iexact S1
        iexact S2
      isplitl [HA]; · iexact HA
      isplitl [HB]; · iexact HB
      isplitl [Hid]; · iexact Hid
      iexact Hoth
    isplitl [HO]
    · iexists W'; isplitr; · ipureintro; exact fun _ _ => Or.inl trivial
      iexact HO
    isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    iexists f6'; isplitr
    · ipureintro
      refine e6.trans ?_
      show _ = stored V c t
      unfold stored
      rw [← e0, ← e1, ← e2, ← e3, ← e4, ← e5]
    iexact H6
  · have hi : (grid1.coords t 0).val ≠ 0 := fun h => ht ((coord_val t).symm.trans h)
    rw [if_neg ht, if_neg (Nat.succ_ne_zero _)]
    iintro ⟨⟨HS, HA, HB, Hid, Hoth⟩, Howes, ⟨%d0, %f0, %e0, H0⟩, ⟨%d1, %f1, %e1, H1⟩, ⟨%d2, %f2, %e2, H2⟩, ⟨%d3, %f3, %e3, H3⟩,
      ⟨%d4, %f4, %e4, H4⟩, ⟨%d5, %f5, %e5, H5⟩, ⟨%d6, %f6, -, H6⟩⟩
    rw [before0] at e0
    rw [before1] at e1
    rw [before2] at e2
    rw [before3] at e3
    rw [before4] at e4
    rw [before5] at e5
    icases HS with ⟨S1, S2⟩
    iapply (runLater c _ hi _ _ _ _ _ _ _ _ _ _ _ _ _ _ f0 f1 f2 f3 f4 f5 f6 (slab (1 : Fin 8) (V c main_arg3)) (slab (1 : Fin 8) (V c main_arg5)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S1]; · iexact S1
    isplitl [S2]; · iexact S2
    iintro ⟨H0, H1, H2, H3, H4, H5, ⟨%f6', %e6, H6⟩, S1, S2⟩
    isplitl [S1 S2 HA HB Hid Hoth]
    · isplitl [S1 S2]
      · isplitl [S1]; · iexact S1
        iexact S2
      isplitl [HA]; · iexact HA
      isplitl [HB]; · iexact HB
      isplitl [Hid]; · iexact Hid
      iexact Hoth
    isplitl [Howes]; · iexact Howes
    isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    iexists f6'; isplitr
    · ipureintro
      refine e6.trans ?_
      show _ = stored V c t
      unfold stored
      rw [← e0, ← e1, ← e2, ← e3, ← e4, ← e5]
    iexact H6

/-! ## The region as a segment of the program -/

/-- The body's own semaphores. -/
abbrev osem : Fin 4 → SemLoc sig := fun | 0 => .dma 22 | 1 => .dma 23 | 2 => .dma 24 | 3 => .dma 25

/-- The transfers' semaphores are the call's own. -/
theorem ownSemFacts : Pipeline.OwnSemFacts spec1 osem := by decide

omit [FloatOps F] [Named F] in
/-- The call's own semaphores, named one by one. -/
theorem ownSems0_eq (c : Dev nD) :
    (Pipeline.ownSems0 (Ix := Unit) (Name := ℕ) (U := Pipeline.UD sig nD τ) (Lvl := ℕ) (Val := Elt F) (τ := τ) osem c : sProp 𝕄) = idle c :=
  Pipeline.ownSems0_eq_of_list c osem [0, 1, 2, 3] (by decide) (by decide)

/-- The output array after the region. -/
def result (c : Dev nD) : Buf (Elt F) ((c : Thread nD τ).loc main_v5) := (dat V c).arrAt 6 cfg1.N

variable (D0 : (c : Dev nD) → Dat τ (Elt F) Unit ℕ (Pipeline.UD sig nD τ) ℕ cfg0 c)
variable (Vp : Conts F)

set_option backward.isDefEq.respectTransparency.types false in
/-- The region, entered with every buffer at `V` and left with every buffer at `Vp`, which is `V` but for the output. -/
def reg (hout : ∀ c, Vp c main_v5 = result V c) (hne : ∀ c (b : Ref sig .tc), b ≠ main_v5 → Vp c b = V c b) :
    Pipeline.RegionSeg (pcfgs (F := F)) adm (pair D0 (dat V)) () defs₀ Variants.none (fun _ => ∅) (fun _ _ => 0) 1 where
  win := launch1.win.to₀
  block_pos := launch1.block_pos
  stage_whole := launch1.stage_whole
  K := Fin 4
  osem := osem
  ho := ownSemFacts
  hbody c := (body_obligation V c).loose
  hwaits := Pipeline.hwaits_of_owed_zero _ _ _ _ (fun _ => ∅) (fun _ _ => 0) 1 fun _ _ => rfl
  pre c := iprop(unscopedBufs c (V c) ∗ owesNothing c)
  post c := iprop(unscopedBufs c (Vp c) ∗ owesNothing c)
  X c := iprop(has c w1M (V c main_arg3) ∗ has c w2M (V c main_arg5) ∗ idle c)
  Y c := iprop(has c w1M (V c main_arg3) ∗ has c w2M (V c main_arg5))
  Z c := iprop((((c : Thread nD τ).loc main_arg0) ↦{fullShare} V c main_arg0) ∗ (((c : Thread nD τ).loc main_arg2) ↦{fullShare} V c main_arg2)
    ∗ (((c : Thread nD τ).loc main_arg4) ↦{fullShare} V c main_arg4) ∗ (((c : Thread nD τ).loc main_arg6) ↦{fullShare} V c main_arg6)
    ∗ (((c : Thread nD τ).loc main_v6) ↦{fullShare} V c main_v6))
  hentry c := by
    rw [ownSems0_eq]
    have hsplit := (Pipeline.arrays_of_unscopedBufs (p := 1) (pcfgs (F := F)) adm (pair D0 (dat V)) launch1.win launch1.arr_whole c
      ((pair D0 (dat V) 1 c).share_full fun _ => rfl) (V c) fun _ => rfl).trans (sep_mono .rfl (Entails.of_eq (unscopedRest1_eq c (V c))))
    iintro ⟨⟨Hub, HO⟩, Hid, -⟩
    ihave H := hsplit $$ Hub
    icases H with ⟨Ha, Z0, Z2, HA, Z4, HB, Z6, Z8⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HA HB Hid]
    · isplitl [HA]; · iexact HA
      isplitl [HB]; · iexact HB
      iexact Hid
    isplitl [Z0]; · iexact Z0
    isplitl [Z2]; · iexact Z2
    isplitl [Z4]; · iexact Z4
    isplitl [Z6]; · iexact Z6
    iexact Z8
  hin c := by
    rw [show (pair D0 (dat V) 1 c).Φ 0 = inv V c 0 from rfl]
    unfold inv scratch others
    rw [if_pos rfl]
    have hsc := Entails.of_eq (scopedRest1_eq (Ix := Unit) (Val := Elt F) (Name := ℕ) (U := Pipeline.UD sig nD τ) (Lvl := ℕ) c)
    iintro ⟨⟨HA, HB, Hid⟩, -, Hr⟩
    ihave H := hsc $$ Hr
    icases H with ⟨O0, O1, O2, O3, O4, O5, O6, O7, O8, O9, S1, S2⟩
    isplitl [S1 S2]
    · isplitl [S1]; · iexact S1
      iexact S2
    isplitl [HA]; · iexact HA
    isplitl [HB]; · iexact HB
    isplitl [Hid]; · iexact Hid
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact O9
  hout c := by
    rw [ownSems0_eq, show (pair D0 (dat V) 1 c).Φ (Fin.last _) = inv V c 8 from rfl]
    unfold inv scratch others
    rw [if_neg (by decide)]
    have hsc := Entails.of_eq (scopedRest1_eq (Ix := Unit) (Val := Elt F) (Name := ℕ) (U := Pipeline.UD sig nD τ) (Lvl := ℕ) c).symm
    iintro ⟨⟨S1, S2⟩, HA, HB, Hid, O0, O1, O2, O3, O4, O5, O6, O7, O8, O9⟩
    isplitl [HA HB]
    · isplitl [HA]; · iexact HA
      iexact HB
    isplitl [Hid]; · iexact Hid
    iapply hsc
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [S1]; · iexists _; iexact S1
    iexists _; iexact S2
  hexit c := by
    have hjoin := (sep_mono .rfl (Entails.of_eq (unscopedRest1_eq c (V c)).symm)).trans
      (Pipeline.unscopedBufs_of_arrays (p := 1) (pcfgs (F := F)) adm (Ix := Unit) (Name := ℕ) (U := Pipeline.UD sig nD τ) (Lvl := ℕ) launch1.win
        launch1.arr_whole c (pair D0 (dat V)) ((pair D0 (dat V) 1 c).share_full fun _ => rfl) (V c) (Vp c) ((pair D0 (dat V) 1 c).arrAt · cfg1.N)
        (fun w => by
          fin_cases w
          · exact ((pair D0 (dat V) 1 c).arrAt_in 0 rfl _).trans (hne c main_v0 (by decide)).symm
          · exact ((pair D0 (dat V) 1 c).arrAt_in 1 rfl _).trans (hne c main_arg1 (by decide)).symm
          · exact ((pair D0 (dat V) 1 c).arrAt_in 2 rfl _).trans (hne c main_v1 (by decide)).symm
          · exact ((pair D0 (dat V) 1 c).arrAt_in 3 rfl _).trans (hne c main_v2 (by decide)).symm
          · exact ((pair D0 (dat V) 1 c).arrAt_in 4 rfl _).trans (hne c main_v3 (by decide)).symm
          · exact ((pair D0 (dat V) 1 c).arrAt_in 5 rfl _).trans (hne c main_v4 (by decide)).symm
          · exact (hout c).symm)
        (fun b hb => hne c b fun h => hb (h ▸ Finset.mem_image.mpr ⟨6, Finset.mem_univ _, rfl⟩)))
    iintro ⟨Ha, HO, ⟨HA, HB⟩, Z0, Z2, Z4, Z6, Z8⟩
    imodintro
    isplitr [HO]
    · iapply hjoin
      isplitl [Ha]; · iexact Ha
      isplitl [Z0]; · iexact Z0
      isplitl [Z2]; · iexact Z2
      isplitl [HA]; · iexact HA
      isplitl [Z4]; · iexact Z4
      isplitl [HB]; · iexact HB
      isplitl [Z6]; · iexact Z6
      iexact Z8
    unfold Pipeline.Dat.owesAt Pipeline.owesWithin
    icases HO with ⟨%W, -, HO⟩; iexists W; iexact HO

end Cert.KernelIdeal.Region1

end
-- ==== Proof.Run.lean ====
/-
  The whole program, run: three stretches of host operations with the two kernel regions between them.  From any
  memory it ends with its arguments as launched and its result at the contents the last stretch computes from what
  the second region leaves.  Stated for any float values.
-/
module

public import proofs.«01_k».proof.Proof.Region0
public import proofs.«01_k».proof.Proof.Region1

@[expose] public section

set_option maxRecDepth 16384

noncomputable section

namespace Cert.KernelIdeal.Run

open Cert.KernelIdeal Cert.KernelIdeal.Gen
open Cert.KernelIdeal.Region0 (Conts pair owesNothing)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What every buffer holds when the first region is entered. -/
def at1 : Conts F := fun c b => V1 m c b
/-- The first region's output. -/
def out4 (c : Dev nD) : Buf (Elt F) ((c : Thread nD τ).loc main_v4) := Region0.result (at1 m) c
/-- What every buffer holds when the second region is entered. -/
def at3 : Conts F := fun c b => StableHlo.after hostOps1 (Function.update (V1 m c) (Proc.devRef .tc main_v4) (out4 m c)) b
/-- The second region's output. -/
def out5 (c : Dev nD) : Buf (Elt F) ((c : Thread nD τ).loc main_v5) := Region1.result (at3 m) c

/-- What the regions leave in the buffers they may change. -/
def outs : Outs (F := F) := fun _ r c =>
  (Function.update (Function.update (V0 m c) (Proc.devRef .tc main_v4) (out4 m c)) (Proc.devRef .tc main_v5) (out5 m c)) r

/-- What the first call's output buffer is left at. -/
theorem outs_v4 (k : ℕ) (c : Dev nD) : outs m k main_v4 c = out4 m c := by
  unfold outs
  rw [Function.update_of_ne (StableHlo.devRef_ne_of_ne (by decide)), Function.update_self]

/-- What the second call's output buffer is left at. -/
theorem outs_v5 (k : ℕ) (c : Dev nD) : outs m k main_v5 c = out5 m c := by
  unfold outs
  rw [Function.update_self]

/-- The contents after the first call. -/
theorem V2_eq (c : Dev nD) : V2 m (outs m) c = Function.update (V1 m c) (Proc.devRef .tc main_v4) (out4 m c) := by
  unfold V2; rw [outs_v4]

/-- The contents the second call finds. -/
theorem V3_eq (c : Dev nD) : V3 m (outs m) c = StableHlo.after hostOps1 (Function.update (V1 m c) (Proc.devRef .tc main_v4) (out4 m c)) := by
  unfold V3; rw [V2_eq]

/-- After the first region its output buffer holds the region's result. -/
theorem V2_v4 (c : Dev nD) : V2 m (outs m) c main_v4 = Region0.result (at1 m) c := by
  rw [V2_eq, Function.update_self]; rfl
/-- After the second region its output buffer holds the region's result. -/
theorem V4_v5 (c : Dev nD) : V4 m (outs m) c main_v5 = Region1.result (at3 m) c := by
  unfold V4; rw [Function.update_self, outs_v5]; rfl

/-- The proof data of both regions. -/
abbrev pdats : (p : Fin 2) → (c : Dev nD) → Dat τ (Elt F) Unit ℕ (Pipeline.UD sig nD τ) ℕ (cfgs p) c :=
  pair (Region0.dat (at1 m)) (Region1.dat (at3 m))

/-- The first region between the contents before and after it. -/
def reg0 : Pipeline.RegionSeg (pcfgs (F := F)) adm (pdats m) () defs₀ Variants.none (fun _ => ∅) (fun _ _ => 0) 0 :=
  Region0.reg (at1 m) (Region1.dat (at3 m)) (fun c b => V2 m (outs m) c b) (fun c => V2_v4 m c)
    (fun c b h => V2_of m (outs m) c b (by simpa using h))
/-- The second region between the contents before and after it. -/
def reg1 : Pipeline.RegionSeg (pcfgs (F := F)) adm (pdats m) () defs₀ Variants.none (fun _ => ∅) (fun _ _ => 0) 1 :=
  Region1.reg (at3 m) (Region0.dat (at1 m)) (fun c b => V4 m (outs m) c b) (fun c => V4_v5 m c)
    (fun c b h => (V4_of m (outs m) c b (by simpa using h)).trans (by rw [V3_eq]; rfl))

/-- What core `c` ends with: every argument as launched, and the result computed. -/
def Ends (c : Dev nD) (M : MemSt nD τ sig (Elt F)) : Prop :=
  (∀ b ∈ ([main_arg0, main_arg1, main_arg2, main_arg3, main_arg4, main_arg5, main_arg6] : List (Ref sig .tc)), M.mem ((c : Thread nD τ).loc b) = m ((c : Thread nD τ).loc b))
    ∧ M.mem ((c : Thread nD τ).loc main_v6) = V5 m (outs m) c main_v6

/-- The launch's user state: the two pipelines' rounds, and nothing beside them. -/
def u₀ : Pipeline.UD sig nD τ := (initOf (Pipeline.cells cfgs cellOf_inj) (Pipeline.launchToks cfgs cellOf_inj), 1)

/-- The launch's user state, split. -/
theorem launch_state :
    (ownU u₀ : sProp 𝕄) ⊢ |={Set.univ}=> iprop(BI.own ((embL : Emb (URounds (GSem nD τ sig) Unit) 𝕄) (initOf (Pipeline.cells cfgs cellOf_inj) (Pipeline.launchToks cfgs cellOf_inj)))
      ∗ bigSep Finset.univ fun _ : Dev nD => (BI.emp : sProp 𝕄)) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What a core holds of the last contents fixes how it ends. -/
theorem ends_of (c : Dev nD) (M : MemSt nD τ sig (Elt F))
    (h : ∀ b ∈ Pipeline.ucRefs τ sig, M.mem ((c : Thread nD τ).1, b) = V5 m (outs m) c b) : Ends m c M := by
  have g : ∀ b : Ref sig .tc, b.isScoped = false → M.mem ((c : Thread nD τ).loc b) = V5 m (outs m) c b := fun b hb =>
    h (Proc.devRef .tc b) (Finset.mem_filter.mpr ⟨StableHlo.devRef_mem_tcRefs b, fun h' => Bool.false_ne_true (hb.symm.trans h')⟩)
  refine ⟨?_, g main_v6 (by decide)⟩
  intro b hb
  simp only [List.mem_cons, List.not_mem_nil, _root_.or_false] at hb
  rcases hb with rfl | rfl | rfl | rfl | rfl | rfl | rfl
  · exact (g _ (by decide)).trans (V5_main_arg0 m (outs m) c)
  · exact (g _ (by decide)).trans (V5_main_arg1 m (outs m) c)
  · exact (g _ (by decide)).trans (V5_main_arg2 m (outs m) c)
  · exact (g _ (by decide)).trans (V5_main_arg3 m (outs m) c)
  · exact (g _ (by decide)).trans (V5_main_arg4 m (outs m) c)
  · exact (g _ (by decide)).trans (V5_main_arg5 m (outs m) c)
  · exact (g _ (by decide)).trans (V5_main_arg6 m (outs m) c)

set_option backward.isDefEq.respectTransparency.types false in
/-- From any memory with every counter at zero the program terminates in every weakly fair execution; every argument is
    then as launched, the result is as computed, and every counter is at zero. -/
theorem run_main : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj (embL : Emb (URounds (GSem nD τ sig) Unit) 𝕄) defs₀ Variants.none
    (fun _ => ∅) (fun _ _ => 0) m ρ main (segs m (outs m) Variants.none (fun _ => ∅) (fun _ _ => 0) (fun _ => owesNothing) () (pdats m) (reg0 m) (reg1 m))
    (fun c Q => by
      rewrite [main_chain c, Pipeline.Seg.run_eq_chain,
        show (segs m (outs m) Variants.none (fun _ => ∅) (fun _ _ => 0) (fun _ => owesNothing) () (pdats m) (reg0 m) (reg1 m) c).map Pipeline.Seg.prog
          = [StableHlo.seq hostOps0, Prog.lift (.customCall (Pipeline.entry 0) ()), StableHlo.seq hostOps1,
            Prog.lift (.customCall (Pipeline.entry 1) ()), StableHlo.seq hostOps2] from rfl]
      dsimp (config := { failIfUnchanged := false }) only
      exact .rfl)
    (fun c => by simp only [segs, Pipeline.Seg.pipes_host, Pipeline.Seg.pipes_region, Pipeline.Seg.pipes_nil]; decide) 0 (fun _ _ => rfl)
    (fun _ => (BI.emp : sProp 𝕄)) u₀ launch_state
    (T₀ := fun c => iprop(StableHlo.held (c : Thread nD τ) (Pipeline.ucRefs τ sig) (V0 m c) ∗ owesNothing c))
    (Tₙ := fun c => StableHlo.held (c : Thread nD τ) (Pipeline.ucRefs τ sig) (V5 m (outs m) c))
    (hch := fun c => ⟨.rfl, ?_, ?_, ?_, ?_, ?_⟩)
    (hinit := ?_) (QY := fun c s => Ends m c s) (hfin := fun c s' => ?_)
    (hQ := fun _ h hz => ⟨h, funext fun g => hz g (.inr (regions_no_unscoped g.2))⟩)
  · exact sep_mono (Entails.of_eq (Pipeline.unscopedBufs_held c (V1 m c)).symm) .rfl
  · exact sep_mono (Entails.of_eq (Pipeline.unscopedBufs_held c (V2 m (outs m) c))) .rfl
  · exact sep_mono (Entails.of_eq ((congrArg (StableHlo.held (c : Thread nD τ) (Pipeline.ucRefs τ sig)) (V3_eq m c)).trans
      (Pipeline.unscopedBufs_held c _).symm)) .rfl
  · exact sep_mono (Entails.of_eq (Pipeline.unscopedBufs_held c (V4 m (outs m) c))) .rfl
  · exact .rfl
  · refine Pipeline.initEach _ _ fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    unfold owesNothing
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ends_of m c s'.mem h
    · iexact HSI

end Cert.KernelIdeal.Run

end
-- ==== Proof.Frames.lean ====
/-
  The three programs terminate without fault, leave their arguments as launched and end with every counter at zero;
  and the idealized kernel differs from the printed one in the mask constant alone.
-/
module

public import proofs.«01_k».proof.Defs
public import proofs.«01_k».proof.Proof.WordRun
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

/-- The printed kernel's frame. -/
theorem frame_kernel : Cert.quiescent_Kernel := fun m ρ _ =>
  (θ_run Cert.Kernel.defs _ _).mono (fun r h => ⟨fun c => by
      have g := (h.1 c).1
      exact ⟨g _ (by simp), g _ (by simp), g _ (by simp), g _ (by simp), g _ (by simp), g _ (by simp), g _ (by simp)⟩, h.2⟩)
    (Cert.Kernel.Run.run_main (F := Bits) m ρ)

/-- The idealized kernel's frame. -/
theorem frame_ideal : Cert.quiescent_KernelIdeal := fun m ρ _ =>
  (θ_run Cert.KernelIdeal.defs _ _).mono (fun r h => ⟨fun c => by
      have g := (h.1 c).1
      exact ⟨g _ (by simp), g _ (by simp), g _ (by simp), g _ (by simp), g _ (by simp), g _ (by simp), g _ (by simp)⟩, h.2⟩)
    (Cert.KernelIdeal.Run.run_main (F := Ideal) m ρ)

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant of the idealized kernel is the mask, minus infinity. -/
theorem preserves : Cert.preserves_Kernel_KernelIdeal :=
  IdealRules.named_const.statement Cert.KernelIdeal.κ "mask" .f32 0xF149F2CA#32 ⊥ rfl

end Cert.Proof

end
-- ==== Proof.Router.lean ====
/-
  The router's arithmetic on one token's eight logits, over the extended reals: the kernel's weight, the logistic of
  the gap between the two largest logits, is the larger of the two largest softmax values over their sum.
-/
module

public import proofs.«01_k».proof.Defs
public import Idealize.ShloMosaic.Lib.SortFacts
public import Idealize.ShloMosaic.Lib.SortNet.Extract

@[expose] public section

noncomputable section

namespace Cert.Proof.Router

open Idealize Idealize.ShloMosaic

/-- The largest of eight values, as the running maximum from −∞. -/
def best (l : Fin 8 → EReal) : EReal := Finset.univ.fold max ⊥ l

/-- The first position that holds the largest value, as the running signed minimum of the positions that hold it. -/
def argWord (l : Fin 8 → EReal) : BitVec 32 :=
  Finset.univ.fold IntOp.minsi 2147483647#32 fun e : Fin 8 => if l e = best l then BitVec.ofNat 32 e.val else 8#32

/-- The largest value once the first largest one is hidden under −∞. -/
def second (l : Fin 8 → EReal) : EReal :=
  best fun e => if BitVec.ofNat 32 e.val = argWord l then ⊥ else l e

/-- The kernel's weight of the first expert. -/
def weight (l : Fin 8 → EReal) : EReal := Ideal.logistic (best l - second l)

/-- The softmax of the eight logits. -/
def prob (l : Fin 8 → EReal) (e : Fin 8) : EReal :=
  Ideal.div (Ideal.exp (l e - best l)) (∑ k, Ideal.exp (l k - best l))

/-- The position of the softmax's value of rank `r`, largest first and equal ones in their order. -/
def pick (l : Fin 8 → EReal) (r : Fin 8) : Fin 8 :=
  sortedFrom (fun k k' => Ideal.cmpTotal .gt (prob l k) (prob l k') == 1#1) r

/-- The two largest softmax values, each over their sum. -/
def share (l : Fin 8 → EReal) (r : Fin 8) : EReal :=
  Ideal.div (prob l (pick l r)) (prob l (pick l 0) + prob l (pick l 1))

/-- The running maximum is a value that bounds the eight and that one of them reaches. -/
theorem best_val (l : Fin 8 → EReal) (v : EReal) (h : ∀ e, l e ≤ v) (a : Fin 8) (ha : v ≤ l a) : best l = v := by
  unfold best
  exact le_antisymm ((Finset.fold_max_le _).mpr ⟨bot_le, fun e _ => h e⟩)
    ((Finset.le_fold_max _).mpr (.inr ⟨a, Finset.mem_univ a, ha⟩))

/-- The running maximum is the value at a position that bounds the others. -/
theorem best_eq (l : Fin 8 → EReal) (a : Fin 8) (h : ∀ e, l e ≤ l a) : best l = l a :=
  best_val l (l a) h a le_rfl

/-- A running signed minimum is its start or one of the words, and is at most each word. -/
theorem fold_minsi_spec (w : BitVec 32) (f : Fin 8 → BitVec 32) (s : Finset (Fin 8)) :
    (s.fold IntOp.minsi w f = w ∨ ∃ e ∈ s, s.fold IntOp.minsi w f = f e)
      ∧ ∀ e ∈ s, (s.fold IntOp.minsi w f).toInt ≤ (f e).toInt := by
  classical
  induction s using Finset.induction_on with
  | empty => exact ⟨.inl rfl, fun e he => absurd he (Finset.notMem_empty e)⟩
  | insert x s hx ih =>
    rw [Finset.fold_insert hx]
    refine ⟨?_, fun e he => ?_⟩
    · have hc : IntOp.minsi (f x) (s.fold IntOp.minsi w f) = f x
          ∨ IntOp.minsi (f x) (s.fold IntOp.minsi w f) = s.fold IntOp.minsi w f := by
        unfold IntOp.minsi; split
        · exact .inl rfl
        · exact .inr rfl
      rcases hc with hc | hc <;> rw [hc]
      · exact .inr ⟨x, Finset.mem_insert_self x s, rfl⟩
      · rcases ih.1 with h | ⟨e, he, h⟩
        · exact .inl h
        · exact .inr ⟨e, Finset.mem_insert_of_mem he, h⟩
    · rw [SortNet.toInt_minsi]
      rcases Finset.mem_insert.mp he with rfl | he
      · exact min_le_left _ _
      · exact (min_le_right _ _).trans (ih.2 e he)

/-- A position's word read signed is the position. -/
theorem toInt_pos (e : Fin 8) : (BitVec.ofNat 32 e.val).toInt = e.val := by
  revert e; decide

/-- Positions with one word are one position. -/
theorem pos_inj (e a : Fin 8) : BitVec.ofNat 32 e.val = BitVec.ofNat 32 a.val ↔ e = a := by
  revert e a; decide

/-- The running signed minimum of the positions with a property, eight standing for the others, is the word of a
    position with the property when there is one. -/
theorem fold_find (P : Fin 8 → Prop) [DecidablePred P] (b : Fin 8) (hb : P b) (w : BitVec 32)
    (hw : w = Finset.univ.fold IntOp.minsi 2147483647#32 fun e : Fin 8 => if P e then BitVec.ofNat 32 e.val else 8#32) :
    ∃ a : Fin 8, w = BitVec.ofNat 32 a.val ∧ P a := by
  obtain ⟨h1, h2⟩ := fold_minsi_spec 2147483647#32
    (fun e : Fin 8 => if P e then BitVec.ofNat 32 e.val else 8#32) Finset.univ
  rw [← hw] at h1 h2
  clear hw
  have hle := h2 b (Finset.mem_univ b)
  rw [if_pos hb, toInt_pos] at hle
  have hb8 : (b.val : Int) < 8 := by exact_mod_cast b.isLt
  rcases h1 with h | ⟨e, -, h⟩
  · exfalso
    rw [h] at hle
    have h7 : (2147483647#32 : BitVec 32).toInt = 2147483647 := by decide
    rw [h7] at hle
    omega
  · by_cases he : P e
    · rw [if_pos he] at h
      exact ⟨e, h, he⟩
    · exfalso
      rw [if_neg he] at h
      rw [h] at hle
      have h8 : (8#32 : BitVec 32).toInt = 8 := by decide
      rw [h8] at hle
      omega

/-- The first position found holds the largest value. -/
theorem argWord_spec (l : Fin 8 → EReal) (b : Fin 8) (hb : ∀ e, l e ≤ l b) :
    ∃ a : Fin 8, argWord l = BitVec.ofNat 32 a.val ∧ l a = l b := by
  have hm := best_eq l b hb
  obtain ⟨a, h, ha⟩ := fold_find (fun e => l e = best l) b hm.symm (argWord l) rfl
  exact ⟨a, h, ha.trans hm⟩

/-- With `b` a largest position and `c` a largest of the others, hiding the first largest leaves `c`'s value. -/
theorem second_eq (l : Fin 8 → EReal) (b c : Fin 8) (hbc : c ≠ b) (hb : ∀ e, l e ≤ l b) (hc : ∀ e, e ≠ b → l e ≤ l c) :
    second l = l c := by
  unfold second
  obtain ⟨a, ha, hab⟩ := argWord_spec l b hb
  have hcb : a ≠ b → l c = l b := fun h => le_antisymm (hb c) (hab ▸ hc a h)
  have hval : ∀ e, (if BitVec.ofNat 32 e.val = argWord l then (⊥ : EReal) else l e) ≤ l c := by
    intro e
    rw [ha]
    by_cases he : e = a
    · rw [if_pos ((pos_inj e a).mpr he)]; exact bot_le
    · rw [if_neg (fun h => he ((pos_inj e a).mp h))]
      by_cases heb : e = b
      · subst heb
        exact (hcb (fun h => he h.symm)).ge
      · exact hc e heb
  by_cases hca : c = a
  · refine best_val _ _ hval b ?_
    show l c ≤ if BitVec.ofNat 32 b.val = argWord l then (⊥ : EReal) else l b
    rw [ha, if_neg (fun h => hbc (hca.trans ((pos_inj b a).mp h).symm))]
    exact hb c
  · refine best_val _ _ hval c ?_
    show l c ≤ if BitVec.ofNat 32 c.val = argWord l then (⊥ : EReal) else l c
    rw [ha, if_neg (fun h => hca ((pos_inj c a).mp h))]

/-- For real logits with `b` a largest position: a softmax value is the exponential of the gap to the largest logit
    over a positive total. -/
theorem prob_real (l : Fin 8 → EReal) (r : Fin 8 → ℝ) (hr : ∀ e, l e = (r e : EReal)) (b : Fin 8)
    (hb : ∀ e, r e ≤ r b) :
    ∃ S : ℝ, 0 < S ∧ ∀ e, prob l e = ((Real.exp (r e - r b) / S : ℝ) : EReal) := by
  have hm : best l = (r b : EReal) := by
    rw [best_eq l b (fun e => by rw [hr, hr]; exact_mod_cast hb e), hr]
  refine ⟨∑ k, Real.exp (r k - r b), Finset.sum_pos (fun k _ => Real.exp_pos _) ⟨b, Finset.mem_univ b⟩, fun e => ?_⟩
  have hS : (∑ k, Real.exp (r k - r b)) ≠ 0 :=
    (Finset.sum_pos (fun k _ => Real.exp_pos _) ⟨b, Finset.mem_univ b⟩).ne'
  have he : ∀ k, Ideal.exp (l k - best l) = ((Real.exp (r k - r b) : ℝ) : EReal) := by
    intro k
    rw [hm, hr, ← EReal.coe_sub, Ideal.exp_coe]
  have hsum : (∑ k, ((Real.exp (r k - r b) : ℝ) : EReal)) = ((∑ k, Real.exp (r k - r b) : ℝ) : EReal) := by
    push_cast
    rfl
  unfold prob
  rw [he e, Finset.sum_congr rfl (fun k _ => he k), hsum, Ideal.div_coe hS, ← EReal.coe_mul, mul_one_div]

/-- Real values have a largest position. -/
theorem exists_max (r : Fin 8 → ℝ) : ∃ b, ∀ e, r e ≤ r b := by
  obtain ⟨b, -, h⟩ := Finset.exists_max_image Finset.univ r ⟨0, Finset.mem_univ 0⟩
  exact ⟨b, fun e => h e (Finset.mem_univ e)⟩

/-- The ranks order the softmax: a later rank holds no larger value. -/
theorem pick_le (l : Fin 8 → EReal) (i j : Fin 8) (h : i < j) : prob l (pick l j) ≤ prob l (pick l i) := by
  have hB : ∀ a b, (Ideal.cmpTotal .gt (prob l a) (prob l b) == 1#1) = decide (prob l b < prob l a) := by
    intro a b
    show (BitVec.ofBool (decide (prob l b < prob l a)) == 1#1) = _
    cases decide (prob l b < prob l a) <;> rfl
  have := sortedFrom_noInversion (fun k k' => Ideal.cmpTotal .gt (prob l k) (prob l k') == 1#1)
    (fun k k' => Ideal.cmpTotal .gt (prob l k) (prob l k') == 1#1)
    (fun a b hab => by
      rw [hB] at hab ⊢
      simp only [decide_eq_true_eq] at hab
      simp only [decide_eq_false_iff_not, not_lt]
      exact hab.le)
    (fun a b hab => hab)
    (fun a b c hab hbc => by
      rw [hB] at hab hbc ⊢
      simp only [decide_eq_false_iff_not, not_lt] at hab hbc ⊢
      exact hab.trans hbc) i j h
  rw [hB] at this
  simp only [decide_eq_false_iff_not, not_lt] at this
  exact this

/-- The first two ranks hold the largest value and the largest of the others. -/
theorem pick_spec (l : Fin 8 → EReal) :
    pick l 1 ≠ pick l 0 ∧ (∀ e, prob l e ≤ prob l (pick l 0)) ∧ ∀ e, e ≠ pick l 0 → prob l e ≤ prob l (pick l 1) := by
  have hs := sortedFrom_surjective (fun k k' => Ideal.cmpTotal .gt (prob l k) (prob l k') == 1#1)
  have hi := sortedFrom_injective (fun k k' => Ideal.cmpTotal .gt (prob l k) (prob l k') == 1#1)
  refine ⟨fun h => absurd (hi h) (by decide), fun e => ?_, fun e he => ?_⟩
  · obtain ⟨j, rfl⟩ := hs e
    by_cases h0 : j = 0
    · subst h0; exact le_rfl
    · exact pick_le l 0 j (Fin.pos_iff_ne_zero.mpr h0)
  · obtain ⟨j, rfl⟩ := hs e
    by_cases h0 : j = 0
    · subst h0; exact absurd rfl he
    · by_cases h1 : j = 1
      · subst h1; exact le_rfl
      · exact pick_le l 1 j (by omega)

/-- For real logits the two shares are the kernel's weight and one minus it. -/
theorem share_eq (l : Fin 8 → EReal) (hl : ∀ e, ∃ x : ℝ, l e = (x : EReal)) :
    share l 0 = weight l ∧ share l 1 = 1 - weight l := by
  choose r hr using hl
  obtain ⟨b, hb⟩ := exists_max r
  obtain ⟨S, hS, hp⟩ := prob_real l r hr b hb
  obtain ⟨hne, h0, h1⟩ := pick_spec l
  unfold share
  generalize pick l 0 = p at *
  generalize pick l 1 = q at *
  have hmono : ∀ e e', prob l e ≤ prob l e' → r e ≤ r e' := by
    intro e e' h
    rw [hp, hp, EReal.coe_le_coe_iff, div_le_div_iff_of_pos_right hS, Real.exp_le_exp] at h
    linarith
  have h0' : ∀ e, l e ≤ l p := fun e => by rw [hr, hr]; exact_mod_cast hmono _ _ (h0 e)
  have h1' : ∀ e, e ≠ p → l e ≤ l (q) := fun e he => by
    rw [hr, hr]; exact_mod_cast hmono _ _ (h1 e he)
  have hw : weight l = (((1 + Real.exp (-(r p - r q)))⁻¹ : ℝ) : EReal) := by
    unfold weight
    rw [best_eq l p h0', second_eq l p (q) hne h0' h1', hr, hr, ← EReal.coe_sub, Ideal.logistic_coe]
  have hsum : prob l p + prob l q
      = (((Real.exp (r p - r b) + Real.exp (r q - r b)) / S : ℝ) : EReal) := by
    rw [hp, hp, ← EReal.coe_add, ← add_div]
  have hE : Real.exp (-(r p - r q)) = Real.exp (r q - r b) / Real.exp (r p - r b) := by
    rw [← Real.exp_sub]; congr 1; ring
  have hP := Real.exp_pos (r p - r b)
  have hQ := Real.exp_pos (r q - r b)
  have hne' : (Real.exp (r p - r b) + Real.exp (r q - r b)) / S ≠ 0 := (div_pos (add_pos hP hQ) hS).ne'
  rw [hw, hsum, hp, hp, Ideal.div_coe hne', Ideal.div_coe hne', ← EReal.coe_mul, ← EReal.coe_mul,
    ← EReal.coe_one, ← EReal.coe_sub, EReal.coe_eq_coe_iff, EReal.coe_eq_coe_iff, hE]
  generalize Real.exp (r p - r b) = P at *
  generalize Real.exp (r q - r b) = Q at *
  have hPQ : P + Q ≠ 0 := (add_pos hP hQ).ne'
  have hP' := hP.ne'
  have hS' := hS.ne'
  constructor
  · field_simp
  · field_simp
    ring

end Cert.Proof.Router

end
-- ==== Proof.Layer.lean ====
/-
  The layer on one token, over the extended reals: the router's logits, an expert's two matrix products, and the two
  active experts under the router's weight.
-/
module

public import proofs.«01_k».proof.Defs
public import proofs.«01_k».proof.Proof.Router

@[expose] public section

noncomputable section

namespace Cert.Proof.Layer

open Idealize Idealize.ShloMosaic

/-- The router's logit of expert `e` for a token. -/
def logit (x : Fin 1024 → EReal) (wr : Fin 1024 → Fin 8 → EReal) (br : Fin 8 → EReal) (e : Fin 8) : EReal :=
  (∑ k, x k * wr k e) + br e

/-- A hidden unit of an expert. -/
def hidden (x : Fin 1024 → EReal) (w1 : Fin 1024 → Fin 4096 → EReal) (b1 : Fin 4096 → EReal) (f : Fin 4096) : EReal :=
  max ((∑ k, x k * w1 k f) + b1 f) 0

/-- An expert's output unit. -/
def expert (x : Fin 1024 → EReal) (w1 : Fin 1024 → Fin 4096 → EReal) (b1 : Fin 4096 → EReal)
    (w2 : Fin 4096 → Fin 1024 → EReal) (b2 : Fin 1024 → EReal) (d : Fin 1024) : EReal :=
  (∑ f, hidden x w1 b1 f * w2 f d) + b2 d

/-- The layer's output unit: the first expert under the router's weight and the second under the rest. -/
def mixed (w : EReal) (o0 o1 : EReal) : EReal := w * o0 + (1 - w) * o1

end Cert.Proof.Layer

end
-- ==== Proof.KernelBlock.lean ====
/-
  What one grid point of either call stores, at an index of its block.
-/
module

public import proofs.«01_k».proof.Defs
public import proofs.«01_k».proof.Proof.Layer
public import proofs.«01_k».proof.Proof.Body0
public import proofs.«01_k».proof.Proof.Body1
public import Idealize.ShloMosaic.Lib.Pointwise
public import Idealize.ShloMosaic.PureOps.Ideal.Laws

@[expose] public section

noncomputable section

namespace Cert.KernelIdeal.Block

open Idealize Idealize.ShloMosaic Cert.KernelIdeal Cert.KernelIdeal.Gen Cert.Proof

variable (x : Vec Ideal S512x1024 .f32) (wr : Vec Ideal S1024x8 .f32) (br : Vec Ideal S1x8 .f32)
  (b1 : Vec Ideal S1x1x4096 .f32) (b2 : Vec Ideal S1x1x1024 .f32) (prev : Vec Ideal S512x1024 .f32)
  (A : Vec Ideal S1024x4096 .f32) (B : Vec Ideal S4096x1024 .f32)

/-- The pattern of −∞ is −∞. -/
theorem neg_inf : Ideal.ofBits .f32 0xFF800000#32 = (⊥ : EReal) := by
  simp [Ideal.ofBits, Ideal.ieee]

/-- The mask's constant is −∞. -/
theorem mask_eq : Named.named (F := Ideal) (φ := .f32) κ "mask" 0xF149F2CA#32 = (⊥ : EReal) := by
  apply IdealRules.named_const.ideal_named_scalar
  rfl

/-- A select on an equality of words. -/
theorem select_eq {α : Type} (a b : BitVec 32) (u v : α) :
    Scalar.select (IntOp.cmpi .eq a b) u v = if a = b then u else v := by
  by_cases h : a = b
  · simp [Scalar.select, IntOp.cmpi, h]
  · have hb : (a == b) = false := by simpa using h
    simp [Scalar.select, IntOp.cmpi, h, hb]

/-- The logits of row `i` of a block. -/
def logits (i : Fin 512) : Fin 8 → EReal :=
  Layer.logit (fun k => x (ix2 i k)) (fun k e => wr (ix2 k e)) (fun e => br (ix2 0 e))

/-- The weight the first call's router computes. -/
theorem weight_apply (i : Fin 512) (z : Fin 1) : k0_pay3 (F := Ideal) x wr br (ix2 i z) = Router.weight (logits x wr br i) := by
  unfold k0_pay3 k0_pay2
  pointwise
  simp only [neg_inf, mask_eq, select_eq]
  rfl

/-- The first matrix product of the first call. -/
theorem product_apply (i : Fin 512) (f : Fin 4096) :
    k0_pay4 (F := Ideal) x A (ix2 i f) = ∑ k, x (ix2 i k) * A (ix2 k f) := by
  unfold k0_pay4 k0_pay2
  pointwise

/-- What the first call stores. -/
theorem first_apply (i : Fin 512) (d : Fin 1024) :
    Body0.outVal (F := Ideal) x wr br b1 b2 A B (ix2 i d)
      = Router.weight (logits x wr br i)
        * Layer.expert (fun k => x (ix2 i k)) (fun k f => A (ix2 k f)) (fun f => b1 (ix3 0 0 f)) (fun f d => B (ix2 f d))
            (fun d => b2 (ix3 0 0 d)) d := by
  unfold Body0.outVal k0_pay1
  pointwise
  simp only [product_apply, weight_apply]
  rfl

/-- The weight the second call's router computes. -/
theorem weight_apply' (i : Fin 512) (z : Fin 1) : k1_pay3 (F := Ideal) x wr br (ix2 i z) = Router.weight (logits x wr br i) := by
  unfold k1_pay3 k1_pay2
  pointwise
  simp only [neg_inf, mask_eq, select_eq]
  rfl

/-- The first matrix product of the second call. -/
theorem product_apply' (i : Fin 512) (f : Fin 4096) :
    k1_pay4 (F := Ideal) x A (ix2 i f) = ∑ k, x (ix2 i k) * A (ix2 k f) := by
  unfold k1_pay4 k1_pay2
  pointwise

/-- The pattern of one is one. -/
theorem one_eq : Ideal.ofBits .f32 0x3F800000#32 = (1 : EReal) := by
  simp [Ideal.ofBits, Ideal.ieee]
  rw [← EReal.coe_mul]
  norm_num

/-- What the second call stores over what the first left. -/
theorem second_apply (i : Fin 512) (d : Fin 1024) :
    Body1.outVal (F := Ideal) x wr br b1 b2 prev A B (ix2 i d)
      = prev (ix2 i d) + (1 - Router.weight (logits x wr br i))
        * Layer.expert (fun k => x (ix2 i k)) (fun k f => A (ix2 k f)) (fun f => b1 (ix3 0 0 f)) (fun f d => B (ix2 f d))
            (fun d => b2 (ix3 0 0 d)) d := by
  unfold Body1.outVal k1_pay1
  pointwise
  simp only [product_apply', weight_apply', one_eq]
  rfl

end Cert.KernelIdeal.Block

end
-- ==== Proof.KernelValue.lean ====
/-
  What each of the two calls leaves in its output array, at an index of the array.
-/
module

public import proofs.«01_k».proof.Proof.KernelBlock
public import proofs.«01_k».proof.Proof.Run
public import Idealize.ShloMosaic.Lib.Pipeline.ValueKit

@[expose] public section

set_option maxRecDepth 16384

noncomputable section

namespace Cert.KernelIdeal.Array

open Idealize Idealize.ShloMosaic Idealize.ShloMosaic.TcCoe Cert.KernelIdeal Cert.KernelIdeal.Gen Cert.Proof
open Cert.KernelIdeal.Region0 (Conts)

variable (x : Vec Ideal S4096x1024 .f32) (wr : Vec Ideal S1024x8 .f32) (br : Vec Ideal S1x8 .f32)
  (w1 : Vec Ideal S8x1024x4096 .f32) (b1 : Vec Ideal S8x1x4096 .f32) (w2 : Vec Ideal S8x4096x1024 .f32)
  (b2 : Vec Ideal S8x1x1024 .f32) (prev : Vec Ideal S4096x1024 .f32)

/-- The router's weight of a token. -/
def weight (n : Fin 4096) : EReal :=
  Router.weight (Layer.logit (fun k => x (ix2 n k)) (fun k e => wr (ix2 k e)) (fun e => br (ix2 0 e)))

/-- An expert's output unit for a token. -/
def expert (e : Fin 8) (n : Fin 4096) (d : Fin 1024) : EReal :=
  Layer.expert (fun k => x (ix2 n k)) (fun k f => w1 (ix3 e k f)) (fun f => b1 (ix3 e 0 f)) (fun f d => w2 (ix3 e f d))
    (fun d => b2 (ix3 e 0 d)) d

/-- The first call's output array. -/
def first : Vec Ideal S4096x1024 .f32 := fun j => weight x wr br (j 0) * expert x w1 b1 w2 b2 0 (j 0) (j 1)

/-- The second call's output array. -/
def second : Vec Ideal S4096x1024 .f32 := fun j =>
  prev (ix2 (j 0) (j 1)) + (1 - weight x wr br (j 0)) * expert x w1 b1 w2 b2 1 (j 0) (j 1)

/-- The index maps of the first call. -/
theorem index0 : ∀ t : Fin grid0.N,
    win0_0.index t = ![t.val, 0] ∧ win0_1.index t = ![0, 0] ∧ win0_2.index t = ![0, 0] ∧ win0_3.index t = ![0, 0, 0]
      ∧ win0_4.index t = ![0, 0, 0] ∧ win0_5.index t = ![t.val, 0] := by decide +kernel

/-- The index maps of the second call. -/
theorem index1 : ∀ t : Fin grid1.N,
    win1_0.index t = ![t.val, 0] ∧ win1_1.index t = ![0, 0] ∧ win1_2.index t = ![0, 0] ∧ win1_3.index t = ![1, 0, 0]
      ∧ win1_4.index t = ![1, 0, 0] ∧ win1_5.index t = ![t.val, 0] ∧ win1_6.index t = ![t.val, 0] := by decide +kernel

/-- The token that row `i` of block `t` is. -/
def token (t : Fin 8) (i : Fin 512) : Fin 4096 := ⟨t.val * 512 + i.val, by omega⟩

section First

open Region0

variable (V : Conts Ideal) (c : Dev nD) (t : Fin cfg0.N)

/-- The block of the tokens, at an index. -/
theorem x_at (i : Fin 512) (k : Fin 1024) : xB V c t (ix2 i k) = V c main_v0 (ix2 (token t i) k) := by
  unfold xB token
  blk_ext [(index0 t).1]

/-- The block of the router's matrix is the matrix. -/
theorem wr_at (k : Fin 1024) (e : Fin 8) : wrB V c t (ix2 k e) = V c main_arg1 (ix2 k e) := by
  unfold wrB
  blk_ext [(index0 t).2.1]

/-- The block of the router's bias is the bias. -/
theorem br_at (e : Fin 8) : brB V c t (ix2 0 e) = V c main_v1 (ix2 0 e) := by
  unfold brB
  blk_ext [(index0 t).2.2.1]

/-- The block of the first biases is the first expert's. -/
theorem b1_at (f : Fin 4096) : b1B V c t (ix3 0 0 f) = V c main_v2 (ix3 0 0 f) := by
  unfold b1B
  blk_ext [(index0 t).2.2.2.1]

/-- The block of the second biases is the first expert's. -/
theorem b2_at (d : Fin 1024) : b2B V c t (ix3 0 0 d) = V c main_v3 (ix3 0 0 d) := by
  unfold b2B
  blk_ext [(index0 t).2.2.2.2.1]

/-- What point `t` of the first call stores, at an index of its block. -/
theorem stored_at (i : Fin 512) (d : Fin 1024) : stored V c t (ix2 i d)
    = first (V c main_v0) (V c main_arg1) (V c main_v1) (V c main_arg3) (V c main_v2) (V c main_arg5) (V c main_v3)
        (ix2 (token t i) d) := by
  unfold stored
  rw [Block.first_apply]
  simp only [Block.logits, x_at, wr_at, br_at, b1_at, b2_at]
  rfl

/-- The first call's output array. -/
theorem result_first : result V c
    = first (V c main_v0) (V c main_arg1) (V c main_v1) (V c main_arg3) (V c main_v2) (V c main_arg5) (V c main_v3) := by
  unfold result
  refine (dat V c).arrAt_eq_of_covers 5 _ (by decide +kernel) fun t _ y => ?_
  blk_simp
  show stored V c t y = _
  obtain ⟨i, d, rfl⟩ : ∃ (i : Fin 512) (d : Fin 1024), y = ix2 i d := ⟨y 0, y 1, (ix2_eta y).symm⟩
  rw [stored_at]
  congr 1
  unfold token
  blk_ext [(index0 t).2.2.2.2.2]

end First

section Second

open Region1

variable (V : Conts Ideal) (c : Dev nD) (t : Fin cfg1.N)

/-- The block of the tokens, at an index. -/
theorem x_at' (i : Fin 512) (k : Fin 1024) : xB V c t (ix2 i k) = V c main_v0 (ix2 (token t i) k) := by
  unfold xB token
  blk_ext [(index1 t).1]

/-- The block of the router's matrix is the matrix. -/
theorem wr_at' (k : Fin 1024) (e : Fin 8) : wrB V c t (ix2 k e) = V c main_arg1 (ix2 k e) := by
  unfold wrB
  blk_ext [(index1 t).2.1]

/-- The block of the router's bias is the bias. -/
theorem br_at' (e : Fin 8) : brB V c t (ix2 0 e) = V c main_v1 (ix2 0 e) := by
  unfold brB
  blk_ext [(index1 t).2.2.1]

/-- The block of the first biases is the second expert's. -/
theorem b1_at' (f : Fin 4096) : b1B V c t (ix3 0 0 f) = V c main_v2 (ix3 1 0 f) := by
  unfold b1B
  blk_ext [(index1 t).2.2.2.1]

/-- The block of the second biases is the second expert's. -/
theorem b2_at' (d : Fin 1024) : b2B V c t (ix3 0 0 d) = V c main_v3 (ix3 1 0 d) := by
  unfold b2B
  blk_ext [(index1 t).2.2.2.2.1]

/-- The block of what the first call left, at an index. -/
theorem prev_at (i : Fin 512) (d : Fin 1024) : prevB V c t (ix2 i d) = V c main_v4 (ix2 (token t i) d) := by
  unfold prevB token
  blk_ext [(index1 t).2.2.2.2.2.1]

/-- What point `t` of the second call stores, at an index of its block. -/
theorem stored_at' (i : Fin 512) (d : Fin 1024) : stored V c t (ix2 i d)
    = second (V c main_v0) (V c main_arg1) (V c main_v1) (V c main_arg3) (V c main_v2) (V c main_arg5) (V c main_v3)
        (V c main_v4) (ix2 (token t i) d) := by
  unfold stored
  rw [Block.second_apply]
  simp only [Block.logits, x_at', wr_at', br_at', b1_at', b2_at', prev_at]
  rfl

/-- The second call's output array. -/
theorem result_second : result V c
    = second (V c main_v0) (V c main_arg1) (V c main_v1) (V c main_arg3) (V c main_v2) (V c main_arg5) (V c main_v3)
        (V c main_v4) := by
  unfold result
  refine (dat V c).arrAt_eq_of_covers 6 _ (by decide +kernel) fun t _ y => ?_
  blk_simp
  show stored V c t y = _
  obtain ⟨i, d, rfl⟩ : ∃ (i : Fin 512) (d : Fin 1024), y = ix2 i d := ⟨y 0, y 1, (ix2_eta y).symm⟩
  rw [stored_at']
  congr 1
  unfold token
  blk_ext [(index1 t).2.2.2.2.2.2]

end Second

end Cert.KernelIdeal.Array

end
-- ==== Proof.KernelEntry.lean ====
/-
  What the host's operations put in the buffers the two calls read, and in the result, at an index.
-/
module

public import proofs.«01_k».proof.Proof.KernelValue
public import Idealize.ShloMosaic.Lib.Claim

@[expose] public section

set_option maxRecDepth 16384

noncomputable section

namespace Cert.KernelIdeal.Entry

open Idealize Idealize.ShloMosaic Idealize.ShloMosaic.TcCoe Cert.KernelIdeal Cert.KernelIdeal.Gen Cert.Proof
open Cert.KernelIdeal.Run

variable (m : (ℓ : Loc nD τ sig) → Buf (Elt Ideal) ℓ) (c : Dev nD)

/-- The row of the flattened tokens that token `s` of batch `b` is. -/
def row (b : Fin 2) (s : Fin 2048) : Fin 4096 := ⟨b.val * 2048 + s.val, by omega⟩

/-- A row's batch. -/
theorem row_div (b : Fin 2) (s : Fin 2048) : (row b s).val / 2048 = b.val := by
  unfold row; simp only; omega

/-- A row's token in its batch. -/
theorem row_mod (b : Fin 2) (s : Fin 2048) : (row b s).val % 2048 = s.val := by
  unfold row; simp only; omega

/-- The flattened tokens the first call reads. -/
theorem v0_at (b : Fin 2) (s : Fin 2048) (k : Fin 1024) :
    at1 m c main_v0 (ix2 (row b s) k) = m ((c : Thread nD τ).loc main_arg0) (ix3 b s k) := by
  show StableHlo.after hostOps0 (V0 m c) main_v0 (ix2 (row b s) k) = _
  entry_read
  pointwise
  simp only [row_div, row_mod]

/-- The router's bias as the first call reads it. -/
theorem v1_at (e : Fin 8) : at1 m c main_v1 (ix2 0 e) = m ((c : Thread nD τ).loc main_arg2) (ix1 e) := by
  show StableHlo.after hostOps0 (V0 m c) main_v1 (ix2 0 e) = _
  entry_read
  pointwise

/-- The first biases as the first call reads them. -/
theorem v2_at (e : Fin 8) (f : Fin 4096) :
    at1 m c main_v2 (ix3 e 0 f) = m ((c : Thread nD τ).loc main_arg4) (ix2 e f) := by
  show StableHlo.after hostOps0 (V0 m c) main_v2 (ix3 e 0 f) = _
  entry_read
  pointwise

/-- The second biases as the first call reads them. -/
theorem v3_at (e : Fin 8) (d : Fin 1024) :
    at1 m c main_v3 (ix3 e 0 d) = m ((c : Thread nD τ).loc main_arg6) (ix2 e d) := by
  show StableHlo.after hostOps0 (V0 m c) main_v3 (ix3 e 0 d) = _
  entry_read
  pointwise

/-- The router's matrix and the experts' matrices reach the first call as launched. -/
theorem args_at1 : at1 m c main_arg1 = m ((c : Thread nD τ).loc main_arg1)
    ∧ at1 m c main_arg3 = m ((c : Thread nD τ).loc main_arg3)
    ∧ at1 m c main_arg5 = m ((c : Thread nD τ).loc main_arg5) :=
  ⟨V1_of m c main_arg1 (by decide), V1_of m c main_arg3 (by decide), V1_of m c main_arg5 (by decide)⟩

/-- A buffer the first call and the copy after it leave alone reaches the second call as the first found it. -/
theorem at3_of (r : Ref sig .tc) (h₁ : r ∉ hostOps1_W) (h₂ : r ∉ ([main_v4] : List (Ref sig .tc))) :
    at3 m c r = at1 m c r := by
  have e : at3 m c r = V3 m (outs m) c r := by rw [V3_eq]; rfl
  rw [e, V3_of m (outs m) c r h₁, V2_of m (outs m) c r h₂]; rfl

/-- The second call reads what the first left. -/
theorem at3_v4 : at3 m c main_v4 = Region0.result (at1 m) c := by
  have e : at3 m c main_v4 = V3 m (outs m) c main_v4 := by rw [V3_eq]; rfl
  rw [e, V3_of m (outs m) c main_v4 (by decide), V2_v4]

/-- The result's buffer, at an index. -/
theorem v6_at (b : Fin 2) (s : Fin 2048) (d : Fin 1024) :
    V5 m (outs m) c main_v6 (ix3 b s d) = Region1.result (at3 m) c (ix2 (row b s) d) := by
  rw [← V4_v5]
  show StableHlo.after hostOps2 (V4 m (outs m) c) main_v6 (ix3 b s d) = _
  entry_read
  pointwise
  rfl

/-- The router's weight of a token, in the arguments. -/
theorem weight_at (b : Fin 2) (s : Fin 2048) :
    Array.weight (at1 m c main_v0) (at1 m c main_arg1) (at1 m c main_v1) (row b s)
      = Router.weight (Layer.logit (fun k => m ((c : Thread nD τ).loc main_arg0) (ix3 b s k))
          (fun k e => m ((c : Thread nD τ).loc main_arg1) (ix2 k e)) (fun e => m ((c : Thread nD τ).loc main_arg2) (ix1 e))) := by
  unfold Array.weight
  rw [(args_at1 m c).1]
  simp only [v0_at, v1_at]

/-- An expert's output unit for a token, in the arguments. -/
theorem expert_at (e : Fin 8) (b : Fin 2) (s : Fin 2048) (d : Fin 1024) :
    Array.expert (at1 m c main_v0) (at1 m c main_arg3) (at1 m c main_v2) (at1 m c main_arg5) (at1 m c main_v3) e (row b s) d
      = Layer.expert (fun k => m ((c : Thread nD τ).loc main_arg0) (ix3 b s k))
          (fun k f => m ((c : Thread nD τ).loc main_arg3) (ix3 e k f)) (fun f => m ((c : Thread nD τ).loc main_arg4) (ix2 e f))
          (fun f d => m ((c : Thread nD τ).loc main_arg5) (ix3 e f d)) (fun d => m ((c : Thread nD τ).loc main_arg6) (ix2 e d)) d := by
  unfold Array.expert
  rw [(args_at1 m c).2.1, (args_at1 m c).2.2]
  simp only [v0_at, v2_at, v3_at]

/-- The result at an index: the two active experts' outputs under the router's weights. -/
theorem result_at (b : Fin 2) (s : Fin 2048) (d : Fin 1024) :
    V5 m (outs m) c main_v6 (ix3 b s d)
      = Layer.mixed (Router.weight (Layer.logit (fun k => m ((c : Thread nD τ).loc main_arg0) (ix3 b s k))
            (fun k e => m ((c : Thread nD τ).loc main_arg1) (ix2 k e)) (fun e => m ((c : Thread nD τ).loc main_arg2) (ix1 e))))
          (Layer.expert (fun k => m ((c : Thread nD τ).loc main_arg0) (ix3 b s k))
            (fun k f => m ((c : Thread nD τ).loc main_arg3) (ix3 0 k f)) (fun f => m ((c : Thread nD τ).loc main_arg4) (ix2 0 f))
            (fun f d => m ((c : Thread nD τ).loc main_arg5) (ix3 0 f d)) (fun d => m ((c : Thread nD τ).loc main_arg6) (ix2 0 d)) d)
          (Layer.expert (fun k => m ((c : Thread nD τ).loc main_arg0) (ix3 b s k))
            (fun k f => m ((c : Thread nD τ).loc main_arg3) (ix3 1 k f)) (fun f => m ((c : Thread nD τ).loc main_arg4) (ix2 1 f))
            (fun f d => m ((c : Thread nD τ).loc main_arg5) (ix3 1 f d)) (fun d => m ((c : Thread nD τ).loc main_arg6) (ix2 1 d)) d) := by
  rw [v6_at, Array.result_second, at3_v4, Array.result_first,
    at3_of m c main_v0 (by decide) (by decide), at3_of m c main_arg1 (by decide) (by decide),
    at3_of m c main_v1 (by decide) (by decide), at3_of m c main_arg3 (by decide) (by decide),
    at3_of m c main_v2 (by decide) (by decide), at3_of m c main_arg5 (by decide) (by decide),
    at3_of m c main_v3 (by decide) (by decide), ← weight_at, ← expert_at, ← expert_at]
  rfl

end Cert.KernelIdeal.Entry

end
-- ==== Proof.RefValue.lean ====
/-
  The reference's result at an index, as the two active experts' outputs under the router's weights.
-/
module

public import proofs.«01_k».proof.Defs
public import proofs.«01_k».proof.Proof.Layer
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import Idealize.ShloMosaic.Lib.ValueIdx
public import Idealize.ShloMosaic.Lib.Pointwise
public import Idealize.ShloMosaic.PureOps.Ideal.Laws

@[expose] public section

noncomputable section

namespace Cert.ReferenceIdeal.Closed

open Idealize Idealize.ShloMosaic Cert.ReferenceIdeal Cert.ReferenceIdeal.Gen
open Cert.ReferenceIdeal.Read Cert.Proof

variable (x0 : (⟨S2x2048x1024, .f32⟩ : BufTy).Contents (Elt Ideal)) (x1 : (⟨S1024x8, .f32⟩ : BufTy).Contents (Elt Ideal))
  (x2 : (⟨S8, .f32⟩ : BufTy).Contents (Elt Ideal)) (x3 : (⟨S8x1024x4096, .f32⟩ : BufTy).Contents (Elt Ideal))
  (x4 : (⟨S8x4096, .f32⟩ : BufTy).Contents (Elt Ideal)) (x5 : (⟨S8x4096x1024, .f32⟩ : BufTy).Contents (Elt Ideal))
  (x6 : (⟨S8x1024, .f32⟩ : BufTy).Contents (Elt Ideal))

/-- The logits of the token at batch `b`, position `s`. -/
def logits (b : Fin 2) (s : Fin 2048) : Fin 8 → EReal :=
  Layer.logit (fun k => x0 (ix3 b s k)) (fun k e => x1 (ix2 k e)) (fun e => x2 (ix1 e))

/-- The reference's logits. -/
theorem logits_apply (b : Fin 2) (s : Fin 2048) (e : Fin 8) :
    val_main_v3 (F := Ideal) x0 x1 x2 (ix3 b s e) = logits x0 x1 x2 b s e := by
  rw [val_main_v3_apply]
  unfold val_main_v0 val_main_v2 val_main_v1
  pointwise
  rfl

/-- The pattern of −∞ is −∞. -/
theorem neg_inf : Ideal.ofBits .f32 0xFF800000#32 = (⊥ : EReal) := by
  simp [Ideal.ofBits, Ideal.ieee]

/-- The reference's largest logit. -/
theorem best_apply (b : Fin 2) (s : Fin 2048) :
    val_main_v4 (F := Ideal) x0 x1 x2 (ix2 b s) = Router.best (logits x0 x1 x2 b s) := by
  unfold val_main_v4 val_main_cst
  pointwise
  simp only [logits_apply, neg_inf]
  rfl

/-- The reference's softmax. -/
theorem prob_apply (b : Fin 2) (s : Fin 2048) (e : Fin 8) :
    val_main_v14 (F := Ideal) x0 x1 x2 (ix3 b s e) = Router.prob (logits x0 x1 x2 b s) e := by
  unfold val_main_v14 val_main_v13 val_main_v12 val_main_v11 val_main_v10 val_main_v9 val_main_v8 val_main_v7 val_main_v6
    val_main_v5 val_main_cst_0 val_main_cst_1
  pointwise
  simp only [logits_apply, best_apply, neg_inf, bot_sup_eq]
  rfl

/-- Moving along the last axis changes the last coordinate. -/
theorem along_last (b : Fin 2) (s : Fin 2048) (e k : Fin 8) :
    (ix3 b s e : S2x2048x8.Idx).along 2 k = ix3 b s k := by
  funext a
  match a with
  | ⟨0, _⟩ => rfl
  | ⟨1, _⟩ => rfl
  | ⟨2, _⟩ => rfl

/-- The reference's two largest softmax values. -/
theorem values_apply (b : Fin 2) (s : Fin 2048) (r : Fin 2) :
    val_main_values (F := Ideal) x0 x1 x2 (ix3 b s r)
      = Router.prob (logits x0 x1 x2 b s) (Router.pick (logits x0 x1 x2 b s) (r.castLE (by decide))) := by
  unfold val_main_values Host.topK Host.sort2
  pointwise
  simp only [along_last, prob_apply]
  rfl

/-- The reference's positions of the two largest softmax values. -/
theorem indices_apply (b : Fin 2) (s : Fin 2048) (r : Fin 2) :
    val_main_indices (F := Ideal) x0 x1 x2 (ix3 b s r)
      = BitVec.ofNat 32 (Router.pick (logits x0 x1 x2 b s) (r.castLE (by decide))).val := by
  unfold val_main_indices Host.topK Host.sort2
  pointwise
  simp only [along_last, prob_apply]
  rfl

/-- The reference's normalised weights. -/
theorem share_apply (b : Fin 2) (s : Fin 2048) (r : Fin 2) :
    val_main_v18 (F := Ideal) x0 x1 x2 (ix3 b s r) = Router.share (logits x0 x1 x2 b s) (r.castLE (by decide)) := by
  unfold val_main_v18 val_main_v17 val_main_v16 val_main_v15 val_main_cst_2
  pointwise
  simp only [values_apply, Fin.sum_univ_two]
  rfl

/-- A product summed over a one-hot row picks its operand. -/
theorem oneHot_sum (x : EReal) (p : Fin 8) (w : BitVec 32) (hw : w = BitVec.ofNat 32 p.val) :
    ∑ e : Fin 8, x * (FloatOps.uitofp (F := Ideal) .f32 (IntOp.cmpi .eq w (BitVec.ofNat 32 e.val)) : EReal) = x := by
  subst hw
  have hbit : ∀ e : Fin 8, IntOp.cmpi .eq (BitVec.ofNat 32 p.val) (BitVec.ofNat 32 e.val) = if p = e then 1#1 else 0#1 := by
    revert p; decide
  rw [Finset.sum_eq_single p]
  · rw [hbit, if_pos rfl]
    show x * (((1#1 : BitVec 1).toNat : ℝ) : EReal) = x
    simp
  · intro e _ he
    rw [hbit, if_neg (fun h => he h.symm)]
    show x * (((0#1 : BitVec 1).toNat : ℝ) : EReal) = 0
    simp
  · exact fun h => absurd (Finset.mem_univ p) h

/-- The first expert reads the token itself. -/
theorem token_first (b : Fin 2) (s : Fin 2048) (k : Fin 1024) :
    val_main_v28 (F := Ideal) x0 x1 x2 (ix3 b s k) = x0 (ix3 b s k) := by
  unfold val_main_v28 val_main_v27 val_main_v26 val_main_v25 val_main_v24 val_main_v23 val_main_v22 val_main_call0_v4
    val_main_call0_v3 val_main_call0_v2 val_main_call0_v1 val_main_call0_v0 val_main_v21 val_main_v20 val_main_cst_4
  pointwise
  simp only [indices_apply]
  exact oneHot_sum _ _ _ rfl

/-- The first expert's output. -/
theorem expert_first (b : Fin 2) (s : Fin 2048) (d : Fin 1024) :
    val_main_v45 (F := Ideal) x0 x1 x2 x3 x4 x5 x6 (ix3 b s d)
      = Layer.expert (fun k => x0 (ix3 b s k)) (fun k f => x3 (ix3 0 k f)) (fun f => x4 (ix2 0 f))
          (fun f d => x5 (ix3 0 f d)) (fun d => x6 (ix2 0 d)) d := by
  unfold val_main_v45 val_main_v44 val_main_v43 val_main_v42 val_main_v41 val_main_v40 val_main_v39 val_main_v38
    val_main_v37 val_main_call1_v0 val_main_call1_cst val_main_v36 val_main_v35 val_main_v34 val_main_v33 val_main_v32
    val_main_v31 val_main_v30 val_main_v29
  pointwise
  simp only [token_first]
  rfl

/-- The second expert reads the token itself. -/
theorem token_second (b : Fin 2) (s : Fin 2048) (k : Fin 1024) :
    val_main_v60 (F := Ideal) x0 x1 x2 (ix3 b s k) = x0 (ix3 b s k) := by
  unfold val_main_v60 val_main_v59 val_main_v58 val_main_v57 val_main_v56 val_main_v55 val_main_v54 val_main_call2_v4
    val_main_call2_v3 val_main_call2_v2 val_main_call2_v1 val_main_call2_v0 val_main_v53 val_main_v52 val_main_cst_5
  pointwise
  simp only [indices_apply]
  exact oneHot_sum _ _ _ rfl

/-- The second expert's output. -/
theorem expert_second (b : Fin 2) (s : Fin 2048) (d : Fin 1024) :
    val_main_v77 (F := Ideal) x0 x1 x2 x3 x4 x5 x6 (ix3 b s d)
      = Layer.expert (fun k => x0 (ix3 b s k)) (fun k f => x3 (ix3 1 k f)) (fun f => x4 (ix2 1 f))
          (fun f d => x5 (ix3 1 f d)) (fun d => x6 (ix2 1 d)) d := by
  unfold val_main_v77 val_main_v76 val_main_v75 val_main_v74 val_main_v73 val_main_v72 val_main_v71 val_main_v70
    val_main_v69 val_main_call3_v0 val_main_call3_cst val_main_v68 val_main_v67 val_main_v66 val_main_v65 val_main_v64
    val_main_v63 val_main_v62 val_main_v61
  pointwise
  simp only [token_second]
  rfl

/-- The reference's result at an index: the two experts' outputs, each times its normalised weight. -/
theorem result_apply (b : Fin 2) (s : Fin 2048) (d : Fin 1024) :
    val_main_v83 (F := Ideal) x0 x1 x2 x3 x4 x5 x6 (ix3 b s d)
      = val_main_v45 (F := Ideal) x0 x1 x2 x3 x4 x5 x6 (ix3 b s d) * Router.share (logits x0 x1 x2 b s) 0
        + val_main_v77 (F := Ideal) x0 x1 x2 x3 x4 x5 x6 (ix3 b s d) * Router.share (logits x0 x1 x2 b s) 1 := by
  unfold val_main_v83 val_main_v82 val_main_v81 val_main_v80 val_main_v79 val_main_v78 val_main_v51 val_main_v50
    val_main_v49 val_main_v48 val_main_v47 val_main_v46 val_main_v19 val_main_cst_3
  pointwise
  simp only [share_apply]
  rfl

/-- With real logits the reference's result is the two experts' outputs under the router's weight. -/
theorem layer_apply (b : Fin 2) (s : Fin 2048) (d : Fin 1024)
    (h : ∀ e, ∃ v : ℝ, logits x0 x1 x2 b s e = (v : EReal)) :
    val_main_v83 (F := Ideal) x0 x1 x2 x3 x4 x5 x6 (ix3 b s d)
      = Layer.mixed (Router.weight (logits x0 x1 x2 b s))
          (Layer.expert (fun k => x0 (ix3 b s k)) (fun k f => x3 (ix3 0 k f)) (fun f => x4 (ix2 0 f))
            (fun f d => x5 (ix3 0 f d)) (fun d => x6 (ix2 0 d)) d)
          (Layer.expert (fun k => x0 (ix3 b s k)) (fun k f => x3 (ix3 1 k f)) (fun f => x4 (ix2 1 f))
            (fun f d => x5 (ix3 1 f d)) (fun d => x6 (ix2 1 d)) d) := by
  obtain ⟨h0, h1⟩ := Router.share_eq (logits x0 x1 x2 b s) h
  rw [result_apply, expert_first, expert_second, h0, h1]
  unfold Layer.mixed
  rw [mul_comm _ (Router.weight _), mul_comm _ (1 - Router.weight _)]

/-- A sum of products of real numbers plus a real number is a real number. -/
theorem real_logit (x : Fin 1024 → EReal) (wr : Fin 1024 → Fin 8 → EReal) (br : Fin 8 → EReal)
    (hx : ∀ k, ∃ v : ℝ, x k = (v : EReal)) (hw : ∀ k e, ∃ v : ℝ, wr k e = (v : EReal))
    (hb : ∀ e, ∃ v : ℝ, br e = (v : EReal)) (e : Fin 8) : ∃ v : ℝ, Layer.logit x wr br e = (v : EReal) := by
  choose x' hx using hx
  choose w' hw using hw
  choose b' hb using hb
  refine ⟨(∑ k, x' k * w' k e) + b' e, ?_⟩
  unfold Layer.logit
  rw [hb, EReal.coe_add]
  congr 1
  rw [Finset.sum_congr rfl (fun k _ => by rw [hx, hw, ← EReal.coe_mul])]
  induction (Finset.univ : Finset (Fin 1024)) using Finset.induction_on with
  | empty => simp
  | insert k s hk ih => rw [Finset.sum_insert hk, Finset.sum_insert hk, EReal.coe_add, ih]

end Cert.ReferenceIdeal.Closed

end
-- ==== Proof.Finite.lean ====
/-
  Under the precondition the router's inputs are real numbers, and the kernel's result is the reference's.
-/
module

public import proofs.«01_k».proof.Proof.KernelEntry
public import proofs.«01_k».proof.Proof.RefValue

@[expose] public section

set_option maxRecDepth 16384

noncomputable section

namespace Cert.Proof

open Idealize Idealize.ShloMosaic Idealize.ShloMosaic.TcCoe Idealize.SL.Sem

/-- The pattern of +∞ is +∞. -/
theorem pos_inf : Ideal.ofBits .f32 0x7F800000#32 = (⊤ : EReal) := by
  simp [Ideal.ofBits, Ideal.ieee]

/-- A number whose absolute value is below +∞ is real. -/
theorem real_of_lt (x : EReal) (h : max x (-x) < ⊤) : ∃ r : ℝ, x = (r : EReal) := by
  induction x using EReal.rec with
  | bot => simp at h
  | top => simp at h
  | coe r => exact ⟨r, rfl⟩

/-- The precondition's comparison, at an index. -/
theorem real_of_cmp (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  refine real_of_lt x ?_
  rw [pos_inf] at h
  exact (Ideal.cmp_olt_eq_one _ _).mp h

variable (m : (ℓ : Loc Cert.KernelIdeal.nD Cert.KernelIdeal.τ Cert.KernelIdeal.sig) → Buf (Elt Ideal) ℓ)

/-- Under the precondition the tokens, the router's matrix and its bias are real. -/
theorem real_args (h : Cert.Pre_KernelIdeal_finite m) (c : Dev Cert.KernelIdeal.nD) :
    (∀ b s k, ∃ r : ℝ, m ((c : Thread Cert.KernelIdeal.nD Cert.KernelIdeal.τ).loc Cert.KernelIdeal.main_arg0) (ix3 b s k) = (r : EReal))
      ∧ (∀ k e, ∃ r : ℝ, m ((c : Thread Cert.KernelIdeal.nD Cert.KernelIdeal.τ).loc Cert.KernelIdeal.main_arg1) (ix2 k e) = (r : EReal))
      ∧ ∀ e, ∃ r : ℝ, m ((c : Thread Cert.KernelIdeal.nD Cert.KernelIdeal.τ).loc Cert.KernelIdeal.main_arg2) (ix1 e) = (r : EReal) := by
  obtain ⟨h0, h1, h2⟩ := h c
  exact ⟨fun b s k => real_of_cmp _ (congrFun h0 (ix3 b s k)), fun k e => real_of_cmp _ (congrFun h1 (ix2 k e)),
    fun e => real_of_cmp _ (congrFun h2 (ix1 e))⟩

/-- Over the same arguments the kernel's result and the reference's are one array. -/
theorem results_eq (h : Cert.Pre_KernelIdeal_finite m) (c : Dev Cert.KernelIdeal.nD) :
    Cert.ReferenceIdeal.Read.val_main_v83 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
      = Cert.KernelIdeal.Gen.V5 m (Cert.KernelIdeal.Run.outs m) c Cert.KernelIdeal.main_v6 := by
  obtain ⟨h0, h1, h2⟩ := real_args m h c
  funext y
  obtain ⟨b, s, d, rfl⟩ : ∃ (b : Fin 2) (s : Fin 2048) (d : Fin 1024), y = ix3 b s d := ⟨y 0, y 1, y 2, eq_ix3 y⟩
  rw [Cert.ReferenceIdeal.Closed.layer_apply _ _ _ _ _ _ _ b s d
    (Cert.ReferenceIdeal.Closed.real_logit _ _ _ (fun k => h0 b s k) h1 h2), Cert.KernelIdeal.Entry.result_at]
  rfl

/-- The value claim: under the precondition the two programs end with one result. -/
theorem value : Cert.algebraic_KernelIdeal_ReferenceIdeal_pre_finite := fun m g m' g' hm hargs =>
  ⟨fun c => Cert.KernelIdeal.Gen.V5 m (Cert.KernelIdeal.Run.outs m) c Cert.KernelIdeal.main_v6,
    (θ_run Cert.KernelIdeal.defs _ _).mono (fun r h c => by
      obtain ⟨a, e⟩ := h.1 c
      exact ⟨e, a _ (by simp), a _ (by simp), a _ (by simp), a _ (by simp), a _ (by simp), a _ (by simp), a _ (by simp)⟩)
      (Cert.KernelIdeal.Run.run_main (F := Ideal) m g),
    (θ_run Cert.ReferenceIdeal.defs _ _).mono (fun r h c => by
      refine ⟨(h c).1.trans ?_, (h c).2⟩
      obtain ⟨e0, e1, e2, e3, e4, e5, e6⟩ := hargs c
      rw [Cert.ReferenceIdeal.Read.val_main_v83_eq, e0, e1, e2, e3, e4, e5, e6]
      exact results_eq m hm c)
      (Cert.ReferenceIdeal.Value.run (F := Ideal) m' g')⟩

end Cert.Proof

end
-- ==== Proof.lean ====
/-
  The certificate: the frames, the named constant's statement and the equality of the two results.
-/
module

public import proofs.«01_k».proof.Defs
public import proofs.«01_k».proof.Proof.Frames
public import proofs.«01_k».proof.Proof.Finite

@[expose] public section

noncomputable section

namespace Cert.Proof

/-- Every claim of this certificate. -/
theorem claim : Cert.Claim := ⟨Cert.Kernel.Gen.facts, Cert.KernelIdeal.Gen.facts, Cert.ReferenceIdeal.Gen.facts,
  Cert.Pre_finite.Gen.facts, frame_kernel, frame_ideal, fun m ρ _ => frame_ideal m ρ trivial, frame_reference,
  fun m ρ _ => frame_reference m ρ trivial, preserves, value⟩

end Cert.Proof

end
